-- ==== Defs.lean ====
def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_FirstRowsIdeal (m : (ℓ : Loc Cert.FirstRowsIdeal.nD Cert.FirstRowsIdeal.τ Cert.FirstRowsIdeal.sig) → Buf (Elt Ideal) ℓ) : Prop :=
  True

def Pre_FirstRows (m : (ℓ : Loc Cert.FirstRows.nD Cert.FirstRows.τ Cert.FirstRows.sig) → Buf (Elt Bits) ℓ) : Prop :=
  True

def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (Cert.Rows.threads (F := Bits)) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (Cert.RowsIdeal.threads (F := Ideal)) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_FirstRowsIdeal [hFirstRowsIdeal : Cert.FirstRowsIdeal.Facts] : Prop :=
  ∀ (m : (ℓ : Loc Cert.FirstRowsIdeal.nD Cert.FirstRowsIdeal.τ Cert.FirstRowsIdeal.sig) → Buf (Elt Ideal) ℓ) (g : Dev Cert.FirstRowsIdeal.nD → PrngReg), Pre_FirstRowsIdeal m →
    θ_run (Cert.FirstRowsIdeal.defs (F := Ideal)) (onTc (τ := Cert.FirstRowsIdeal.τ) (Cert.FirstRowsIdeal.main (F := Ideal))) ⟨m, fun _ => 0, g⟩ (fun r => (∀ c : Dev Cert.FirstRowsIdeal.nD,
      r.2.mem ((c.tc : Thread Cert.FirstRowsIdeal.nD Cert.FirstRowsIdeal.τ).loc Cert.FirstRowsIdeal.main_arg0) = m ((c.tc : Thread Cert.FirstRowsIdeal.nD Cert.FirstRowsIdeal.τ).loc Cert.FirstRowsIdeal.main_arg0)
      ∧ r.2.mem ((c.tc : Thread Cert.FirstRowsIdeal.nD Cert.FirstRowsIdeal.τ).loc Cert.FirstRowsIdeal.main_arg1) = m ((c.tc : Thread Cert.FirstRowsIdeal.nD Cert.FirstRowsIdeal.τ).loc Cert.FirstRowsIdeal.main_arg1))
      ∧ r.2.sem = fun _ => 0)

def quiescent_FirstRows [hFirstRows : Cert.FirstRows.Facts] : Prop :=
  ∀ (m : (ℓ : Loc Cert.FirstRows.nD Cert.FirstRows.τ Cert.FirstRows.sig) → Buf (Elt Bits) ℓ) (g : Dev Cert.FirstRows.nD → PrngReg), Pre_FirstRows m →
    θ_run (Cert.FirstRows.defs (F := Bits)) (onTc (τ := Cert.FirstRows.τ) (Cert.FirstRows.main (F := Bits))) ⟨m, fun _ => 0, g⟩ (fun r => (∀ c : Dev Cert.FirstRows.nD,
      r.2.mem ((c.tc : Thread Cert.FirstRows.nD Cert.FirstRows.τ).loc Cert.FirstRows.main_arg0) = m ((c.tc : Thread Cert.FirstRows.nD Cert.FirstRows.τ).loc Cert.FirstRows.main_arg0)
      ∧ r.2.mem ((c.tc : Thread Cert.FirstRows.nD Cert.FirstRows.τ).loc Cert.FirstRows.main_arg1) = m ((c.tc : Thread Cert.FirstRows.nD Cert.FirstRows.τ).loc Cert.FirstRows.main_arg1))
      ∧ r.2.sem = fun _ => 0)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Rows_RowsIdeal : Prop :=
  True

def algebraic_RowsIdeal_FirstRowsIdeal [hRowsIdeal : Cert.RowsIdeal.Facts] [hFirstRowsIdeal : Cert.FirstRowsIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.FirstRowsIdeal.nD Cert.FirstRowsIdeal.τ Cert.FirstRowsIdeal.sig) → Buf (Elt Ideal) ℓ) (g' : Dev Cert.FirstRowsIdeal.nD → PrngReg), Pre_RowsIdeal m →
    (∀ c : Dev Cert.RowsIdeal.nD,
      m' ((c.tc : Thread Cert.FirstRowsIdeal.nD Cert.FirstRowsIdeal.τ).loc Cert.FirstRowsIdeal.main_arg0) = m ((c.tc : Thread Cert.RowsIdeal.nD Cert.RowsIdeal.τ).loc Cert.RowsIdeal.main_arg0)
      ∧ m' ((c.tc : Thread Cert.FirstRowsIdeal.nD Cert.FirstRowsIdeal.τ).loc Cert.FirstRowsIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (Cert.RowsIdeal.threads (F := Ideal)) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.FirstRowsIdeal.defs (F := Ideal)) (onTc (τ := Cert.FirstRowsIdeal.τ) (Cert.FirstRowsIdeal.main (F := Ideal))) ⟨m', fun _ => 0, g'⟩ (fun r => ∀ c : Dev Cert.FirstRowsIdeal.nD,
          r.2.mem ((c.tc : Thread Cert.FirstRowsIdeal.nD Cert.FirstRowsIdeal.τ).loc Cert.FirstRowsIdeal.main_v0) = v0 c
          ∧ r.2.mem ((c.tc : Thread Cert.FirstRowsIdeal.nD Cert.FirstRowsIdeal.τ).loc Cert.FirstRowsIdeal.main_arg0) = m' ((c.tc : Thread Cert.FirstRowsIdeal.nD Cert.FirstRowsIdeal.τ).loc Cert.FirstRowsIdeal.main_arg0)
          ∧ r.2.mem ((c.tc : Thread Cert.FirstRowsIdeal.nD Cert.FirstRowsIdeal.τ).loc Cert.FirstRowsIdeal.main_arg1) = m' ((c.tc : Thread Cert.FirstRowsIdeal.nD Cert.FirstRowsIdeal.τ).loc Cert.FirstRowsIdeal.main_arg1))

def bitexact_Rows_FirstRows [hRows : Cert.Rows.Facts] [hFirstRows : Cert.FirstRows.Facts] : Prop :=
  ∀ (m : (ℓ : Loc Cert.Rows.nD Cert.Rows.τ Cert.Rows.sig) → Buf (Elt Bits) ℓ) (g : Dev Cert.Rows.nD → PrngReg)
    (m' : (ℓ : Loc Cert.FirstRows.nD Cert.FirstRows.τ Cert.FirstRows.sig) → Buf (Elt Bits) ℓ) (g' : Dev Cert.FirstRows.nD → PrngReg), Pre_Rows m →
    (∀ c : Dev Cert.Rows.nD,
      m' ((c.tc : Thread Cert.FirstRows.nD Cert.FirstRows.τ).loc Cert.FirstRows.main_arg0) = m ((c.tc : Thread Cert.Rows.nD Cert.Rows.τ).loc Cert.Rows.main_arg0)
      ∧ m' ((c.tc : Thread Cert.FirstRows.nD Cert.FirstRows.τ).loc Cert.FirstRows.main_arg1) = m ((c.tc : Thread Cert.Rows.nD Cert.Rows.τ).loc Cert.Rows.main_arg1)) →
    ∃ (v0 : (c : Dev Cert.Rows.nD) → Buf (Elt Bits) ((c.tc : Thread Cert.Rows.nD Cert.Rows.τ).loc Cert.Rows.main_v0)),
      θ_run (Cert.Rows.defs (F := Bits)) (Cert.Rows.threads (F := Bits)) ⟨m, fun _ => 0, g⟩ (fun r => ∀ c : Dev Cert.Rows.nD,
          r.2.mem ((c.tc : Thread Cert.Rows.nD Cert.Rows.τ).loc Cert.Rows.main_v0) = v0 c
          ∧ r.2.mem ((c.tc : Thread Cert.Rows.nD Cert.Rows.τ).loc Cert.Rows.main_arg0) = m ((c.tc : Thread Cert.Rows.nD Cert.Rows.τ).loc Cert.Rows.main_arg0)
          ∧ r.2.mem ((c.tc : Thread Cert.Rows.nD Cert.Rows.τ).loc Cert.Rows.main_arg1) = m ((c.tc : Thread Cert.Rows.nD Cert.Rows.τ).loc Cert.Rows.main_arg1))
      ∧ θ_run (Cert.FirstRows.defs (F := Bits)) (onTc (τ := Cert.FirstRows.τ) (Cert.FirstRows.main (F := Bits))) ⟨m', fun _ => 0, g'⟩ (fun r => ∀ c : Dev Cert.FirstRows.nD,
          r.2.mem ((c.tc : Thread Cert.FirstRows.nD Cert.FirstRows.τ).loc Cert.FirstRows.main_v0) = v0 c
          ∧ r.2.mem ((c.tc : Thread Cert.FirstRows.nD Cert.FirstRows.τ).loc Cert.FirstRows.main_arg0) = m' ((c.tc : Thread Cert.FirstRows.nD Cert.FirstRows.τ).loc Cert.FirstRows.main_arg0)
          ∧ r.2.mem ((c.tc : Thread Cert.FirstRows.nD Cert.FirstRows.τ).loc Cert.FirstRows.main_arg1) = m' ((c.tc : Thread Cert.FirstRows.nD Cert.FirstRows.τ).loc Cert.FirstRows.main_arg1))

def preserves_Kernel_KernelIdeal : Prop :=
  True

def algebraic_KernelIdeal_ReferenceIdeal [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hRows : Cert.Rows.Facts) (hRowsIdeal : Cert.RowsIdeal.Facts) (hFirstRowsIdeal : Cert.FirstRowsIdeal.Facts) (hFirstRows : Cert.FirstRows.Facts) (hKernel : Cert.Kernel.Facts) (hKernelIdeal : Cert.KernelIdeal.Facts) (hReferenceIdeal : Cert.ReferenceIdeal.Facts) (hPre_tokens_in_vocab : Cert.Pre_tokens_in_vocab.Facts),
    quiescent_Rows (hRows := hRows)
    ∧ quiescent_RowsIdeal (hRowsIdeal := hRowsIdeal)
    ∧ quiescent_FirstRowsIdeal (hFirstRowsIdeal := hFirstRowsIdeal)
    ∧ quiescent_FirstRows (hFirstRows := hFirstRows)
    ∧ quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Rows_RowsIdeal
    ∧ algebraic_RowsIdeal_FirstRowsIdeal (hRowsIdeal := hRowsIdeal) (hFirstRowsIdeal := hFirstRowsIdeal)
    ∧ bitexact_Rows_FirstRows (hRows := hRows) (hFirstRows := hFirstRows)
    ∧ preserves_Kernel_KernelIdeal
    ∧ algebraic_KernelIdeal_ReferenceIdeal (hKernelIdeal := hKernelIdeal) (hReferenceIdeal := hReferenceIdeal) (hPre_tokens_in_vocab := hPre_tokens_in_vocab)
-- ==== Pre_tokens_in_vocab.lean ====
abbrev S8192 : Shape := ⟨1, ![8192]⟩
abbrev S30522x512 : Shape := ⟨2, ![30522, 512]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : IVec S8192 32) (main_arg1 : FVec F S30522x512 .f32) : IVec S8192 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 30522#32
  let main_v2 : IVec S8192 32 := broadcastInDim S8192 ![] bcast_S_S8192 main_c_0
  let main_v3 : IVec S8192 1 := cmpi .slt main_arg0 main_v2
  let main_v4 : IVec S8192 1 := andi main_v1 main_v3
  main_v4
-- ==== Rows.lean ====
abbrev S8192 : Shape := ⟨1, ![8192]⟩
abbrev S30522x512 : Shape := ⟨2, ![30522, 512]⟩
abbrev S2x512 : Shape := ⟨2, ![2, 512]⟩
abbrev S_ : Shape := ⟨0, ![]⟩

abbrev nBuf : Table → Nat
  | .hbm => 3
  | _ => 0

abbrev bufTy : (tb : Table) → Fin (nBuf tb) → BufTy
  | .hbm, ⟨0, _⟩ => ⟨S8192, .i32⟩
  | .hbm, ⟨1, _⟩ => ⟨S30522x512, .f32⟩
  | .hbm, ⟨2, _⟩ => ⟨S2x512, .f32⟩
  | _, _ => ⟨S8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== FirstRows.lean ====
abbrev S8192 : Shape := ⟨1, ![8192]⟩
abbrev S30522x512 : Shape := ⟨2, ![30522, 512]⟩
abbrev S2x512 : Shape := ⟨2, ![2, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192, .i32⟩
  | .hbm, ⟨1, _⟩ => ⟨S30522x512, .f32⟩
  | .hbm, ⟨2, _⟩ => ⟨S2x512, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel.lean ====
abbrev S8192 : Shape := ⟨1, ![8192]⟩
abbrev S30522x512 : Shape := ⟨2, ![30522, 512]⟩
abbrev S16 : Shape := ⟨1, ![16]⟩
abbrev S512 : Shape := ⟨1, ![512]⟩
abbrev S_ : Shape := ⟨0, ![]⟩
abbrev S2x512 : Shape := ⟨2, ![2, 512]⟩
abbrev S1x512 : Shape := ⟨2, ![1, 512]⟩
abbrev S16x512 : Shape := ⟨2, ![16, 512]⟩
abbrev S8 : Shape := ⟨1, ![8]⟩
abbrev S1 : Shape := ⟨1, ![1]⟩
abbrev S16x128 : Shape := ⟨2, ![16, 128]⟩
abbrev S30522x128 : Shape := ⟨2, ![30522, 128]⟩
abbrev S1x16 : Shape := ⟨2, ![1, 16]⟩

abbrev nBuf : Table → Nat
  | .hbm => 9
  | .local .scVector .vmem => 4
  | _ => 0

abbrev bufTy : (tb : Table) → Fin (nBuf tb) → BufTy
  | .hbm, ⟨0, _⟩ => ⟨S8192, .i32⟩
  | .hbm, ⟨1, _⟩ => ⟨S30522x512, .f32⟩
  | .hbm, ⟨2, _⟩ => ⟨S16, .i32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S2x512, .f32⟩
  | .local .scVector .vmem, ⟨0, _⟩ => ⟨S16, .i32⟩
  | .local .scVector .vmem, ⟨1, _⟩ => ⟨S1x512, .f32⟩
  | .local .scVector .vmem, ⟨2, _⟩ => ⟨S16x512, .f32⟩
  | .local .scVector .vmem, ⟨3, _⟩ => ⟨S512, .f32⟩
  | _, _ => ⟨S8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 2, rfl⟩
abbrev main_v4_scv : Ref sig .scVector := ⟨.hbm, 7, rfl⟩
abbrev main_arg1_scv : Ref sig .scVector := ⟨.hbm, 1, rfl⟩
abbrev main_v5_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let arg0 : BitVec 32 := BitVec.ofNat 32 (i 0).val
  let v0 : BitVec 32 := Scalar.addi arg1 arg0
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_27 : BitVec 32 := 0#32
  let c32_i32 : BitVec 32 := 32#32
  let v36 : BitVec 32 := Scalar.addi c0_i32_27 c32_i32
  let c1_i32_28 : BitVec 32 := 1#32
  ⟨c0_i32_27, v36, c1_i32_28⟩
def k0_off1 (k0_t1 : Fin k0_t1_loop.trips) : Fin 2 → Nat :=
  let c0_i32_64 : BitVec 32 := 0#32
  let v63 : Index := Scalar.indexCast c0_i32_64
  let c16_i32 : BitVec 32 := 16#32
  let c0_i32_27 : BitVec 32 := 0#32
  let c1_i32_28 : BitVec 32 := 1#32
  let arg11 : BitVec 32 := Scf.iv c0_i32_27 c1_i32_28 k0_t1
  let v62 : BitVec 32 := Scalar.muli c16_i32 arg11
  let v64 : Index := Scalar.indexCast v62
  ![0, v64.toNat]
def k0_off2 (k0_t1 : Fin k0_t1_loop.trips) : Fin 1 → Nat :=
  let c16_i32 : BitVec 32 := 16#32
  let c0_i32_27 : BitVec 32 := 0#32
  let c1_i32_28 : BitVec 32 := 1#32
  let arg11 : BitVec 32 := Scf.iv c0_i32_27 c1_i32_28 k0_t1
  let v62 : BitVec 32 := Scalar.muli c16_i32 arg11
  let v67 : Index := Scalar.indexCast v62
  ![v67.toNat]
@[reducible] def k0_t2_loop : Scf.Loop 32 :=
  let c0_i32_51 : BitVec 32 := 0#32
  let c32_i32_52 : BitVec 32 := 32#32
  let v53 : BitVec 32 := Scalar.addi c0_i32_51 c32_i32_52
  let c1_i32_53 : BitVec 32 := 1#32
  ⟨c0_i32_51, v53, c1_i32_53⟩
def k0_off3 (k0_t2 : Fin k0_t2_loop.trips) : Fin 2 → Nat :=
  let c15_i32 : BitVec 32 := 15#32
  let v63 : Index := Scalar.indexCast c15_i32
  let c16_i32 : BitVec 32 := 16#32
  let c0_i32_51 : BitVec 32 := 0#32
  let c1_i32_53 : BitVec 32 := 1#32
  let arg11 : BitVec 32 := Scf.iv c0_i32_51 c1_i32_53 k0_t2
  let v62 : BitVec 32 := Scalar.muli c16_i32 arg11
  let v64 : Index := Scalar.indexCast v62
  ![15, v64.toNat]
def k0_off4 (k0_t2 : Fin k0_t2_loop.trips) : Fin 1 → Nat :=
  let c16_i32 : BitVec 32 := 16#32
  let c0_i32_51 : BitVec 32 := 0#32
  let c1_i32_53 : BitVec 32 := 1#32
  let arg11 : BitVec 32 := Scf.iv c0_i32_51 c1_i32_53 k0_t2
  let v62 : BitVec 32 := Scalar.muli c16_i32 arg11
  let v67 : Index := Scalar.indexCast v62
  ![v67.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))
-- ==== ReferenceIdeal.lean ====
abbrev S8192 : Shape := ⟨1, ![8192]⟩
abbrev S30522x512 : Shape := ⟨2, ![30522, 512]⟩
abbrev S8192x1 : Shape := ⟨2, ![8192, 1]⟩
abbrev S512 : Shape := ⟨1, ![512]⟩
abbrev S1x512 : Shape := ⟨2, ![1, 512]⟩
abbrev S_ : Shape := ⟨0, ![]⟩
abbrev S8192x512 : Shape := ⟨2, ![8192, 512]⟩
abbrev S16384x512 : Shape := ⟨2, ![16384, 512]⟩
abbrev S1 : Shape := ⟨1, ![1]⟩
abbrev S2 : Shape := ⟨1, ![2]⟩
abbrev S2x1 : Shape := ⟨2, ![2, 1]⟩
abbrev S1x1 : Shape := ⟨2, ![1, 1]⟩
abbrev S2x512 : Shape := ⟨2, ![2, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192, .i32⟩
  | .hbm, ⟨1, _⟩ => ⟨S30522x512, .f32⟩
  | .hbm, ⟨2, _⟩ => ⟨S8192, .f32⟩
  | .hbm, ⟨3, _⟩ => ⟨S8192x1, .f32⟩
  | .hbm, ⟨4, _⟩ => ⟨S512, .f32⟩
  | .hbm, ⟨5, _⟩ => ⟨S1x512, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S16384x512, .f32⟩
  | .hbm, ⟨24, _⟩ => ⟨S1, .i32⟩
  | .hbm, ⟨25, _⟩ => ⟨S_, .i32⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S2, .i32⟩
  | .hbm, ⟨30, _⟩ => ⟨S_, .i32⟩
  | .hbm, ⟨31, _⟩ => ⟨S2, .i32⟩
  | .hbm, ⟨32, _⟩ => ⟨S2, .i1⟩
  | .hbm, ⟨33, _⟩ => ⟨S_, .i32⟩
  | .hbm, ⟨34, _⟩ => ⟨S2, .i32⟩
  | .hbm, ⟨35, _⟩ => ⟨S2, .i32⟩
  | .hbm, ⟨36, _⟩ => ⟨S2, .i32⟩
  | .hbm, ⟨37, _⟩ => ⟨S2x1, .i32⟩
  | .hbm, ⟨38, _⟩ => ⟨S1, .i32⟩
  | .hbm, ⟨39, _⟩ => ⟨S_, .i32⟩
  | .hbm, ⟨40, _⟩ => ⟨S2x1, .i32⟩
  | .hbm, ⟨41, _⟩ => ⟨S2x1, .i1⟩
  | .hbm, ⟨42, _⟩ => ⟨S1x1, .i32⟩
  | .hbm, ⟨43, _⟩ => ⟨S2x1, .i32⟩
  | .hbm, ⟨44, _⟩ => ⟨S2x1, .i1⟩
  | .hbm, ⟨45, _⟩ => ⟨S2x1, .i1⟩
  | .hbm, ⟨46, _⟩ => ⟨S_, .i1⟩
  | .hbm, ⟨47, _⟩ => ⟨S2, .i1⟩
  | .hbm, ⟨48, _⟩ => ⟨S2x512, .f32⟩
  | .hbm, ⟨49, _⟩ => ⟨S2x512, .i1⟩
  | .hbm, ⟨50, _⟩ => ⟨S_, .f32⟩
  | .hbm, ⟨51, _⟩ => ⟨S2x512, .f32⟩
  | .hbm, ⟨52, _⟩ => ⟨S2x512, .f32⟩
  | .hbm, ⟨53, _⟩ => ⟨S1x512, .f32⟩
  | .hbm, ⟨54, _⟩ => ⟨S512, .f32⟩
  | .hbm, ⟨55, _⟩ => ⟨S1x512, .f32⟩
  | .hbm, ⟨56, _⟩ => ⟨S2x512, .f32⟩
  | .hbm, ⟨57, _⟩ => ⟨S2x512, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩

abbrev nD : Nat := 1
abbrev τ : Topo := Topo.v7x

variable {F : FTy → Type} [FloatOps F]
-- ==== Proof.RowsRun.lean ====
/-
  The run of the scalar-subcore call: SparseCore 0's sequencer copies rows 0 and 1 of the table into the result, one
  transfer issued and waited for on the kernel's scoped semaphore. Proved once, over any float values: the program's
  float operations never matter (it has none).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.RowsIdeal
public import proofs.«01_k».proof.Proof.Gen.RowsIdeal.Skeleton

@[expose] public section

noncomputable section

namespace Cert.Proof.RowsRun

open Cert.RowsIdeal Cert.RowsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The call as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are four different ones and no kernel's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

local notation "tW" => (Memref.whole Cert.RowsIdeal.main_arg1_scs : Memref Cert.RowsIdeal.sig Kind.scScalar Space.hbm Cert.RowsIdeal.S30522x512 EltTy.f32)
local notation "oW" => (Memref.whole Cert.RowsIdeal.main_v0_scs : Memref Cert.RowsIdeal.sig Kind.scScalar Space.hbm Cert.RowsIdeal.S2x512 EltTy.f32)
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

variable [FloatOps F]

/-- Rows 0 and 1 of a table. -/
def top (f : S30522x512.Idx → F .f32) : S2x512.Idx → F .f32 :=
  extractStridedSlice S2x512 ![0, 0] f (show S30522x512.Slices ![0, 0] S2x512 by decide)

abbrev xPts (d : Dev nD) : sProp 𝕄 := xLoc d ↦{fullShare} m (xLoc d)
abbrev tPts (d : Dev nD) : sProp 𝕄 := tLoc d ↦{fullShare} m (tLoc d)
abbrev oPts (d : Dev nD) (f : Buf (Elt F) (oLoc d)) : sProp 𝕄 := oLoc d ↦{fullShare} f

/-- The call takes the table and the result array whole; it gives the table back as it was and the result array holding
    the table's first two rows. -/
def P : (K (F := F)).Pay (nD := nD) (Val := Elt F) (Name := ℕ) (U := UU) where
  st := fun _ d _ => iprop(tPts m d ∗ oPts d (m (oLoc d)))
  dn := fun _ d _ => iprop(tPts m d ∗ oPts d (top (m (tLoc d))))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's body -/

section Body

variable (d : Dev nD)

def coordsS (c : Fin (grid0.bound 0)) : grid0.Coords := fun | 0 => c | ⟨_ + 1, h⟩ => absurd h (Nat.not_lt.2 (Nat.le_add_left _ _))

/-- The sequencer's thread, and the cell of the copy's semaphore. -/
abbrev S0 (h : 0 < grid0.bound 0) : Thread nD τ := S d ((⟨0, h⟩ : Fin (grid0.bound 0)).castLE hcore0)
abbrev cell (c : Fin τ.nSC) : GSem nD τ sig := (S d c, .dma cc0_scoped0.sem)

omit [FloatOps F] in
/-- Of the sequencer's semaphores, the copy's and the others. -/
theorem ownSems0_S (c : Fin τ.nSC) :
    (ownSems0 (S d c) : sProp 𝕄) = iprop(semVal (cell d c) 0 ∗ bigSep ((ownCells (S d c)).erase (cell d c)) fun g => semVal g 0) := by
  unfold SparseCore.Cfg.ownSems0
  exact SparseCore.bigSep_erase' ((mem_ownCells (g := cell d c)).mpr ⟨rfl, by show (SemLoc.dma cc0_scoped0.sem : SemLoc sig).isScoped .scScalar = true; decide⟩)

omit [FloatOps F] in
/-- The table as the sequencer addresses it is the device's table. -/
theorem pts_t (c : Fin τ.nSC) (f : Buf (Elt F) (tLoc d)) :
    ((tW).view.loc (S d c) ↦{fullShare} f : sProp 𝕄) = tLoc d ↦{fullShare} f := by
  simp only [Memref.view_whole, View.set_whole]
omit [FloatOps F] in
/-- The result array likewise. -/
theorem pts_o (c : Fin τ.nSC) (f : Buf (Elt F) (oLoc d)) :
    ((oW).view.loc (S d c) ↦{fullShare} f : sProp 𝕄) = oLoc d ↦{fullShare} f := by
  simp only [Memref.view_whole, View.set_whole]

/-- The two rows of the table as the transfer names them. -/
abbrev twoRows : Memref sig .scScalar .hbm S2x512 .f32 :=
  (tW).slice (Rect.unit (s := S30522x512) ![0, 0] S2x512.size inb_S30522x512_S2x512_0_0) (fun _ => rfl)

/-- What the transfer reads, written over the whole result array, is the table's first two rows. -/
theorem write_top (c : Fin τ.nSC) (f : Buf (Elt F) (oLoc d)) (pay : S2x512.Idx → Elt F .f32)
    (hpay : pay = (twoRows).view.read (Elt F) (m (tLoc d))) :
    View.write (Elt F) (oW).view f pay Finset.univ = top (m (tLoc d)) := by
  subst hpay
  rw [View.write_whole_univ]
  funext j
  refine ((View.read_apply _ _).trans (cast_eq _ _)).trans ?_
  unfold top extractStridedSlice
  congr 1
  funext a
  refine Fin.ext ?_
  show ![0, 0] a + 1 * (j a).val = ![0, 0] a + (j a).val
  rw [Nat.one_mul]

/-- The sequencer's body: the branch is taken, the transfer issued and waited for; the result array ends holding the
    table's first two rows, the table as it was, the semaphore at zero. -/
theorem body (h : 0 < grid0.bound 0) (O : CellTallies nD τ sig (HIx 1)) (W : Waits sig (HIx 1)) (hO : ∀ g, O g none = 0) :
    iprop(levAts (K (F := F)).L (K (F := F)).lev ∗ emp ∗ (tPts m d ∗ oPts d (m (oLoc d)))
        ∗ scopedBufs (S0 d h) ∗ scopedSems0 (S0 d h) ∗ owes (S0 d h) O W)
      ⊢ wp frame (wpE (defs₀ (F := F)) 𝒱₀ (S0 d h) none) Set.univ
          (cc0__scs_body (coordsS ⟨0, h⟩) tW (Memref.isWhole_whole _) oW (Memref.isWhole_whole _) cc0_scoped0)
          fun _ => iprop((tPts m d ∗ oPts d (top (m (tLoc d)))) ∗ scopedBufs (S0 d h) ∗ scopedSems0 (S0 d h)
            ∗ ∃ W', ⌜∀ p ∈ W', p ∈ W ∨ p.2 = none⌝ ∗ owes (S0 d h) O W') := by
  have k0_h1 : Scalar.cmpi .ne (Scalar.extui (Scalar.cmpi .eq (BitVec.ofNat 32 (coordsS ⟨0, h⟩ 0).val) 0#32) : BitVec 32) 0#32 = 1#1 := by decide +revert
  simp only [cc0__scs_body_eq_skeleton]; unfold cc0__scs_body_skel
  iintro ⟨#Hlv, -, ⟨Ht, Ho⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem, Hrest⟩
  ihave Hmw := ((K (F := F)).mayWaits_none (thr := S0 d h) hO) $$ Hlv
  ihave Ht' := (Entails.of_eq (pts_t (F := F) d (((⟨0, h⟩ : Fin (grid0.bound 0))).castLE hcore0) _).symm) $$ Ht
  ihave Ho' := (Entails.of_eq (pts_o (F := F) d (((⟨0, h⟩ : Fin (grid0.bound 0))).castLE hcore0) _).symm) $$ Ho
  sl_exec
  sl_step
  isplitl [Ht' Ho']
  · isplitl [Ht']; · iapply (Entails.of_eq (pts_t (F := F) d _ _)); iexact Ht'
    rw [← write_top m d ((⟨0, h⟩ : Fin (grid0.bound 0)).castLE hcore0) (m (oLoc d)) _ rfl]
    iapply (Entails.of_eq (pts_o (F := F) d _ _)); iexact Ho'
  isplitl [Hsb]; · iexact Hsb
  isplitl [Hsem Hrest Hsubs]
  · iapply (SparseCore.Cfg.scopedSems0_S_intro (Val := Elt F) d _)
    isplitl [Hsem Hrest]
    · rw [ownSems0_S]; isplitl [Hsem]
      · iexact Hsem
      · iexact Hrest
    · iexact Hsubs
  iexists (insert (SemLoc.dma cc0_scoped0.sem, (default : HIx 1)) W); isplitr
  · ipureintro; intro p hp
    rcases Finset.mem_insert.mp hp with hp | hp
    · exact .inr (hp ▸ rfl)
    · exact .inl hp
  · iexact HO

end Body

/-! ## The launch -/

theorem defs₀_scalar (c : Fin τ.nSC) :
    defs₀ (F := F) (.scScalar c) 0 ()
      = SparseCore.onCore hcore0 (fun c => cc0__scs_body (coordsS c) tW (Memref.isWhole_whole _) oW (Memref.isWhole_whole _) cc0_scoped0) ⟨⟩ c := rfl

/-- The launch theorem's obligation for the call: its one sequencer runs `body`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ (tPts m d ∗ oPts d (m (oLoc d))) ∗ _) ⊢ wp _ _ _ _ (fun _ => iprop((tPts m d ∗ oPts d (top (m (tLoc d)))) ∗ _))
  match c with
  | ⟨0, h⟩ =>
    refine (body m d h O W hO).trans (wp_mono frame _ _ fun _ => ?_)
    iintro ⟨HA, HB, HC, %W', %hW', HO⟩
    isplitl [HA]; · iexact HA
    isplitl [HB]; · iexact HB
    isplitl [HC]; · iexact HC
    iexists W'; isplitr
    · ipureintro; exact fun p hp => (hW' p hp).imp_right Or.inl
    · iexact HO

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch's ghost state is the handshakes' alone. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

omit [FloatOps F] in
/-- The device's three arrays, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ oPts d (top (m (tLoc d)))) :=
  bigSep_univ_of_subsingleton (0 : Fin 1)

/-- What @main ends with. -/
abbrev FIN (d : Dev nD) : sProp 𝕄 := iprop(xPts m d ∗ tPts m d ∗ oPts d (top (m (tLoc d))))

/-- @main: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ht, Ho⟩, Hts, -⟩, -⟩
  iapply ((K (F := F)).wp_run (D (F := F)) 𝒱 (EH := EH) (P := P m) κ d 0) $$ [Hst Hx Ht Ho Hb Hts]
  isplitr; · iexact Hctx
  isplitl [Hst]; · iexact Hst
  isplitl [Ht Ho]
  · rw [st0_eq]
    isplitl [Ht]; · iexact Ht
    iexact Ho
  iintro ⟨Hst, Hdn⟩
  ihave Hdn' := (Entails.of_eq (dn0_eq m d)) $$ Hdn
  icases Hdn' with ⟨Ht, Ho⟩
  imodintro
  isplitl [Hst]; · iexact Hst
  isplitr [Hb Hts]
  · isplitl [Hx]; · iexact Hx
    isplitl [Ht]; · iexact Ht
    iexact Ho
  isplitl [Hb] <;> iassumption

/-- The final memory, read: result and arguments. -/
def fq (d : Dev nD) (s' : Phys nD τ sig (Elt F)) : Prop :=
  s'.mem.mem (oLoc d) = top (m (tLoc d)) ∧ s'.mem.mem (xLoc d) = m (xLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := top (m (tLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What every final state satisfies. -/
def QC : PUnit × MemSt nD τ sig (Elt F) → Prop := fun r =>
  (∀ c : Dev nD, r.2.mem (oLoc c) = top (m (tLoc c)) ∧ r.2.mem (xLoc c) = m (xLoc c) ∧ r.2.mem (tLoc c) = m (tLoc c)) ∧ r.2.sem = fun _ => 0

/-- Every weakly fair execution of the program terminates without a fault, its result the table's first two rows, its
    arguments unchanged and every semaphore at zero. -/
theorem run_main [∀ e, Nonempty (Elt F e)] :
    θ_run (Cert.RowsIdeal.defs (F := F)) (Cert.RowsIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.RowsRun

end
-- ==== Proof.RowsClaims.lean ====
/-
  The claims about the scalar-subcore call, from its one run (RowsRun.lean) and the reference's.
-/
module

public import proofs.«01_k».proof.Defs
public import proofs.«01_k».proof.Proof.RowsRun
public import proofs.«01_k».proof.Proof.Gen.Rows
public import proofs.«01_k».proof.Proof.Gen.Rows.Skeleton
public import proofs.«01_k».proof.Proof.Gen.FirstRows
public import proofs.«01_k».proof.Proof.Gen.FirstRows.Run
public import proofs.«01_k».proof.Proof.Gen.FirstRowsIdeal
public import proofs.«01_k».proof.Proof.Gen.FirstRowsIdeal.Run
public import Idealize.ShloMosaic.Adequacy

@[expose] public section

noncomputable section

namespace Cert.Proof.RowsClaims

open Idealize.ShloMosaic Idealize.SL.Sem

/-- The idealized call terminates without a fault, its arguments unchanged and its semaphores at zero. -/
theorem frame_rowsIdeal : Cert.quiescent_RowsIdeal := fun m ρ _ =>
  (θ_run Cert.RowsIdeal.defs _ _).mono (fun _ h => ⟨fun c => (h.1 c).2, h.2⟩) (RowsRun.run_main (F := Ideal) m ρ)

/-- So does the call as printed: it is the same text, so the same run, read at bits. -/
theorem frame_rows : Cert.quiescent_Rows := fun m ρ _ =>
  (θ_run Cert.RowsIdeal.defs _ _).mono (fun _ h => ⟨fun c => (h.1 c).2, h.2⟩) (RowsRun.run_main (F := Bits) m ρ)

/-- The reference's host slice terminates, its arguments unchanged; it declares no semaphore. -/
theorem frame_firstRows : Cert.quiescent_FirstRows := fun m ρ _ =>
  (θ_run Cert.FirstRows.defs _ _).mono
    (fun r h => ⟨fun c => (h c).2, sem_eq_zero_of_no_sems (by decide) r.2⟩)
    (Cert.FirstRows.Value.run (F := Bits) m ρ)

/-- The same of the idealized reference. -/
theorem frame_firstRowsIdeal : Cert.quiescent_FirstRowsIdeal := fun m ρ _ =>
  (θ_run Cert.FirstRowsIdeal.defs _ _).mono
    (fun r h => ⟨fun c => (h c).2, sem_eq_zero_of_no_sems (by decide) r.2⟩)
    (Cert.FirstRowsIdeal.Value.run (F := Ideal) m ρ)

/-- At exact numbers the call's result is the reference's: both are the table's rows 0 and 1. -/
theorem algebraic_rows : Cert.algebraic_RowsIdeal_FirstRowsIdeal := fun m ρ m' ρ' _ hag =>
  ⟨fun c => RowsRun.top (F := Ideal) (m (RowsRun.tLoc c)),
    (θ_run Cert.RowsIdeal.defs _ _).mono (fun _ h => h.1) (RowsRun.run_main (F := Ideal) m ρ),
    (θ_run Cert.FirstRowsIdeal.defs _ _).mono
      (fun _ h c => ⟨(h c).1.trans (congrArg (RowsRun.top (F := Ideal)) (hag c).2), (h c).2⟩)
      (Cert.FirstRowsIdeal.Value.run (F := Ideal) m' ρ')⟩

/-- And bit for bit. -/
theorem bitexact_rows : Cert.bitexact_Rows_FirstRows := fun m ρ m' ρ' _ hag =>
  ⟨fun c => RowsRun.top (F := Bits) (m (RowsRun.tLoc c)),
    (θ_run Cert.RowsIdeal.defs _ _).mono (fun _ h => h.1) (RowsRun.run_main (F := Bits) m ρ),
    (θ_run Cert.FirstRows.defs _ _).mono
      (fun _ h c => ⟨(h c).1.trans (congrArg (RowsRun.top (F := Bits)) (hag c).2), (h c).2⟩)
      (Cert.FirstRows.Value.run (F := Bits) m' ρ')⟩

end Cert.Proof.RowsClaims

end
-- ==== Proof.KernelRun.lean ====
/-
  The run of the whole kernel: the host operations that lay out the last sixteen indices and the first row of
  positions, and the vector-subcore call that copies row 1 of the table, gathers the rows the sixteen indices name in
  four blocks of columns, adds the positions to the two rows the result needs, and copies them out. Proved once, over
  any float values.
-/
module

public import proofs.«01_k».proof.Defs
public import proofs.«01_k».proof.Proof.RowsRun
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.KernelRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The call as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are four different ones and no kernel's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the values -/

variable (m : (ℓ : Loc nD τ sig) → Buf (Elt F) ℓ) (ρ : Dev nD → PrngReg)

local notation "wW" => (Memref.whole Cert.KernelIdeal.main_v0_scv : Memref Cert.KernelIdeal.sig Kind.scVector Space.hbm Cert.KernelIdeal.S16 EltTy.i32)
local notation "pW" => (Memref.whole Cert.KernelIdeal.main_v4_scv : Memref Cert.KernelIdeal.sig Kind.scVector Space.hbm Cert.KernelIdeal.S512 EltTy.f32)
local notation "tW" => (Memref.whole Cert.KernelIdeal.main_arg1_scv : Memref Cert.KernelIdeal.sig Kind.scVector Space.hbm Cert.KernelIdeal.S30522x512 EltTy.f32)
local notation "oW" => (Memref.whole Cert.KernelIdeal.main_v5_scv : Memref Cert.KernelIdeal.sig Kind.scVector Space.hbm Cert.KernelIdeal.S2x512 EltTy.f32)
local notation "iB" => (Memref.whole Cert.KernelIdeal.cc0_scratch0 : Memref Cert.KernelIdeal.sig Kind.scVector Space.vmem Cert.KernelIdeal.S16 EltTy.i32)
local notation "aB" => (Memref.whole Cert.KernelIdeal.cc0_scratch1 : Memref Cert.KernelIdeal.sig Kind.scVector Space.vmem Cert.KernelIdeal.S1x512 EltTy.f32)
local notation "gB" => (Memref.whole Cert.KernelIdeal.cc0_scratch2 : Memref Cert.KernelIdeal.sig Kind.scVector Space.vmem Cert.KernelIdeal.S16x512 EltTy.f32)
local notation "qB" => (Memref.whole Cert.KernelIdeal.cc0_scratch3 : Memref Cert.KernelIdeal.sig Kind.scVector Space.vmem Cert.KernelIdeal.S512 EltTy.f32)
abbrev xLoc (d : Dev nD) : Loc nD τ sig := (SparseCore.T d).loc main_arg0
abbrev tLoc (d : Dev nD) : Loc nD τ sig := (SparseCore.T d).loc main_arg1
abbrev wLoc (d : Dev nD) : Loc nD τ sig := (SparseCore.T d).loc main_v0
abbrev pLoc (d : Dev nD) : Loc nD τ sig := (SparseCore.T d).loc main_v4
abbrev oLoc (d : Dev nD) : Loc nD τ sig := (SparseCore.T d).loc main_v5

variable [FloatOps F]

/-- The last sixteen indices. -/
def words (x : S8192.Idx → BitVec 32) : S16.Idx → BitVec 32 :=
  extractStridedSlice S16 ![8176] x slices_S8192_S16_8176

/-- The first row of positions: the sine of each column's number of degrees. -/
def posRow : S512.Idx → F .f32 :=
  Host.sin (mulf (sitofp .f32 (iotaInDim S512 32 0)) (broadcastInDim S512 ![] bcast_S_S512 (constant S_ .f32 0x3C8EFA35#32)))

/-- A place in the table, by row and column. -/
def at2 (r : Fin 30522) (c : Fin 512) : S30522x512.Idx := fun a => match a with | 0 => r | 1 => c

/-- The table's row that an index word names (the word itself, for every word the precondition allows). -/
def rowIx (w : BitVec 32) : Fin 30522 := ⟨w.toNat % 30522, Nat.mod_lt _ (by decide)⟩

/-- A column of one row of length 512. -/
def col1 (c : Fin 512) : S512.Idx := fun a => match a with | 0 => c

/-- An index among sixteen. -/
def at16 (r : Fin 16) : S16.Idx := fun a => match a with | 0 => r

/-- Row 1 of the table, with the position added in the first `16 k` columns. -/
def firstAt (t : S30522x512.Idx → F .f32) (k : ℕ) : S1x512.Idx → F .f32 := fun j =>
  if (j 1).val < 16 * k then FloatOps.addf (t (at2 1 (j 1))) (posRow (col1 (j 1))) else t (at2 1 (j 1))

/-- The sixteen gathered rows, with the position added in the first `16 k` columns of the last one. -/
def gatheredAt (x : S8192.Idx → BitVec 32) (t : S30522x512.Idx → F .f32) (k : ℕ) : S16x512.Idx → F .f32 := fun j =>
  if (j 0).val = 15 ∧ (j 1).val < 16 * k then FloatOps.addf (t (at2 (rowIx (words x (at16 (j 0)))) (j 1))) (posRow (col1 (j 1)))
  else t (at2 (rowIx (words x (at16 (j 0)))) (j 1))

/-- The result: row 1 of the table, and the row the last index names, each with the first row of positions added. -/
def result (x : S8192.Idx → BitVec 32) (t : S30522x512.Idx → F .f32) : S2x512.Idx → F .f32 := fun j =>
  FloatOps.addf (t (at2 (if (j 0).val = 0 then 1 else rowIx (words x (at16 15))) (j 1))) (posRow (col1 (j 1)))

abbrev xPts (d : Dev nD) : sProp 𝕄 := xLoc d ↦{fullShare} m (xLoc d)
abbrev tPts (d : Dev nD) : sProp 𝕄 := tLoc d ↦{fullShare} m (tLoc d)
abbrev wPts (d : Dev nD) : sProp 𝕄 := wLoc d ↦{fullShare} (words (m (xLoc d)) : Buf (Elt F) (wLoc d))
abbrev pPts (d : Dev nD) : sProp 𝕄 := pLoc d ↦{fullShare} (posRow : Buf (Elt F) (pLoc d))
abbrev oPts (d : Dev nD) (f : Buf (Elt F) (oLoc d)) : sProp 𝕄 := oLoc d ↦{fullShare} f

/-- What the proof asks of the launch memory: every index names a row of the table. -/
def PreOK : Prop := ∀ (d : Dev nD) (j : S8192.Idx), (m (xLoc d) j : BitVec 32).toNat < 30522

/-- Five of the read tokens of an array (those that cells 2 to 6 index), and what is left of the share. -/
theorem tokens {ℓ : Loc nD τ sig} (S : Finset (Idx ℓ)) (f : Buf (Elt F) ℓ) (q : PosShare TreeShare) :
    (ℓ ↦[S]{q} f : sProp 𝕄) = iprop((ℓ ↦[S]{Transfers.shareDrop q 7} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f)
      ∗ (ℓ ↦[S]{Transfers.shareTokN q 5} f) ∗ (ℓ ↦[S]{Transfers.shareTokN q 6} f)) := by
  have h := Transfers.pointsTo_toks_range (Val := Elt F) (U := UU) (Name := ℕ) (Lvl := ℕ) (Ix := HIx 1) (ℓ := ℓ) (S := S) (f := f) q 7
  rw [show Finset.range 7 = {0, 1, 2, 3, 4, 5, 6} by decide, SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton] at h
  exact BI.Entails.antisymm h.1 h.2

/-! ## What the copies, the gathers and the loops leave -/

section Value

variable (x : S8192.Idx → BitVec 32) (t : S30522x512.Idx → F .f32)

/-! A store of part of a buffer, read inside the part and outside it. -/

omit [FloatOps F] in
theorem aB_hit (f : S1x512.Idx → F .f32) (r : Rect S1x512) (w : r.shape.Idx → F .f32) (z : r.shape.Idx) (i : S1x512.Idx)
    (hz : ∀ a, (i a).val = r.off a + r.stride a * (z a).val) : ((aB).view.writes (Elt F) f [⟨r, w⟩] : S1x512.Idx → F .f32) i = w z :=
  View.read_writes_cons_hit_of_coords (Val := Elt F) (aB).view f r w [] z i hz

omit [FloatOps F] in
theorem aB_miss (f : S1x512.Idx → F .f32) (r : Rect S1x512) (w : r.shape.Idx → F .f32) (i : S1x512.Idx) (hi : i ∉ r.set) :
    ((aB).view.writes (Elt F) f [⟨r, w⟩] : S1x512.Idx → F .f32) i = f i :=
  View.read_writes_cons_miss (Val := Elt F) (aB).view f ⟨r, w⟩ [] i hi

omit [FloatOps F] in
theorem gB_hit (f : S16x512.Idx → F .f32) (r : Rect S16x512) (w : r.shape.Idx → F .f32) (z : r.shape.Idx) (i : S16x512.Idx)
    (hz : ∀ a, (i a).val = r.off a + r.stride a * (z a).val) : ((gB).view.writes (Elt F) f [⟨r, w⟩] : S16x512.Idx → F .f32) i = w z :=
  View.read_writes_cons_hit_of_coords (Val := Elt F) (gB).view f r w [] z i hz

omit [FloatOps F] in
theorem gB_miss (f : S16x512.Idx → F .f32) (r : Rect S16x512) (w : r.shape.Idx → F .f32) (i : S16x512.Idx) (hi : i ∉ r.set) :
    ((gB).view.writes (Elt F) f [⟨r, w⟩] : S16x512.Idx → F .f32) i = f i :=
  View.read_writes_cons_miss (Val := Elt F) (gB).view f ⟨r, w⟩ [] i hi

omit [FloatOps F] in
theorem oRow_hit (o : Fin 2 → ℕ) (h) (hs) (f : S2x512.Idx → F .f32) (w : S1x512.Idx → F .f32) (y : S1x512.Idx) :
    (((oW).slice (Rect.unit (s := S2x512) o S1x512.size h) hs).view.writes (Elt F) f [⟨Rect.whole S1x512, w⟩] : S2x512.Idx → F .f32)
      ((Rect.unit (s := S2x512) o S1x512.size h).emb y) = w y := by
  have e := View.read_writes_cons_hit (Val := Elt F) ((oW).slice (Rect.unit (s := S2x512) o S1x512.size h) hs).view f (Rect.whole S1x512) w [] y y (Rect.emb_whole_apply S1x512 y)
  rw [View.read_apply] at e
  refine Eq.trans ?_ e
  generalize ((oW).slice (Rect.unit (s := S2x512) o S1x512.size h) hs).view.writes (Elt F) f [⟨Rect.whole S1x512, w⟩] = W
  exact (cast_eq rfl _).symm

omit [FloatOps F] in
/-- A copy over a whole buffer leaves what it read. -/
theorem list_copied (f) (i) :
    ((iB).view.writes (Elt F) f [⟨Rect.whole S16, ReadAs.same.apply (View.read (Elt F) (wW).view (words x))⟩] : S16.Idx → BitVec 32) i = words x i :=
  View.read_writes_cons_hit (Val := Elt F) (iB).view f (Rect.whole S16) _ [] i i (Rect.emb_whole_apply S16 i)

/-- The positions' copy likewise. -/
theorem pos_copied (f) (i) :
    ((qB).view.writes (Elt F) f [⟨Rect.whole S512, ReadAs.same.apply (View.read (Elt F) (pW).view (posRow (F := F)))⟩] : S512.Idx → F .f32) i = posRow i :=
  View.read_writes_cons_hit (Val := Elt F) (qB).view f (Rect.whole S512) _ [] i i (Rect.emb_whole_apply S512 i)

/-- Table row 1's copy leaves row 1, no position added yet. -/
theorem first_copied (h) (hs) (f) (i) :
    ((aB).view.writes (Elt F) f [⟨Rect.whole S1x512, ReadAs.same.apply
      (View.read (Elt F) ((tW).slice (Rect.unit (s := S30522x512) ![1, 0] S1x512.size h) hs).view t)⟩] : S1x512.Idx → F .f32) i = firstAt t 0 i := by
  refine (aB_hit f (Rect.whole S1x512) _ i i (fun a => by show (i a).val = 0 + 1 * (i a).val; omega)).trans ?_
  show t ((Rect.unit (s := S30522x512) ![1, 0] S1x512.size h).emb i) = firstAt t 0 i
  unfold firstAt
  rw [if_neg (by omega)]
  refine congrArg t (funext fun a => Fin.ext ?_)
  have h0 : (i 0).val < 1 := (i 0).isLt
  match a with
  | 0 => show 1 + 1 * (i 0).val = 1; omega
  | 1 => show 0 + 1 * (i 1).val = (i 1).val; omega

/-- One block of sixteen columns: the row's lanes plus the positions' lanes. -/
theorem pay2_apply (a : S1x16.Idx → F .f32) (b : S16.Idx → F .f32) (y : S1x16.Idx) :
    k0_pay2 a b y = FloatOps.addf (a y) (b (at16 (y 1))) := by
  have e : (Fin.cons (⟨0, Nat.one_pos⟩ : Fin 1) (fun a : Fin 1 => y a.succ) : S1x16.Idx) = y := by
    funext a
    match a with
    | 0 => exact Subsingleton.elim (α := Fin 1) _ _
    | 1 => rfl
  show shapeCast (⟨1 + 1, Matrix.vecCons 1 ![16]⟩ : Shape) (addf (shapeCast (⟨1, ![16]⟩ : Shape) a _) (shapeCast S16 b _)) _ y = _
  refine (shapeCast_addUnit_apply ![16] _ _ y).trans ?_
  refine congrArg₂ FloatOps.addf ((shapeCast_dropUnit_apply ![16] a _ _).trans (congrArg a e)) ?_
  refine (congrFun (shapeCast_self (s := S16) b _) _).trans (congrArg b (funext fun a => ?_))
  match a with
  | 0 => rfl

theorem pay1_apply (a : S1x16.Idx → F .f32) (b : S16.Idx → F .f32) (y : S1x16.Idx) :
    k0_pay1 a b y = FloatOps.addf (a y) (b (at16 (y 1))) := pay2_apply a b y

omit [FloatOps F] in
theorem off1 : ∀ k : Fin k0_t1_loop.trips, k0_off1 k = ![0, 16 * k.val] := by decide +kernel
omit [FloatOps F] in
theorem off2 : ∀ k : Fin k0_t1_loop.trips, k0_off2 k = ![16 * k.val] := by decide +kernel
omit [FloatOps F] in
theorem off3 : ∀ k : Fin k0_t2_loop.trips, k0_off3 k = ![15, 16 * k.val] := by decide +kernel
omit [FloatOps F] in
theorem off4 : ∀ k : Fin k0_t2_loop.trips, k0_off4 k = ![16 * k.val] := by decide +kernel

/-- One trip of the first loop adds the position in one more block of sixteen columns. -/
theorem first_step (k : Fin k0_t1_loop.trips) (h₁) (h₂) (i) :
    ((aB).view.writes (Elt F) (firstAt t k.val) [⟨Rect.unit (s := S1x512) (k0_off1 k) S1x16.size h₁,
      k0_pay2 (View.readAt (Elt F) (aB).view (Rect.unit (s := S1x512) (k0_off1 k) S1x16.size h₁).toLoadRect (firstAt t k.val))
        (View.readAt (Elt F) (qB).view (Rect.unit (s := S512) (k0_off2 k) S16.size h₂).toLoadRect (posRow (F := F)))⟩] : S1x512.Idx → F .f32) i
      = firstAt t (k.val + 1) i := by
  have h0 : (i 0).val < 1 := (i 0).isLt
  have o10 : k0_off1 k 0 = 0 := congrFun (off1 k) 0
  have o11 : k0_off1 k 1 = 16 * k.val := congrFun (off1 k) 1
  have o2 : k0_off2 k 0 = 16 * k.val := congrFun (off2 k) 0
  by_cases hb : 16 * k.val ≤ (i 1).val ∧ (i 1).val < 16 * k.val + 16
  · have hx : ∀ a, (i a).val = (Rect.unit (s := S1x512) (k0_off1 k) S1x16.size h₁).off a
        + (Rect.unit (s := S1x512) (k0_off1 k) S1x16.size h₁).stride a * ((fun a => match a with | 0 => (⟨0, by decide⟩ : Fin 1) | 1 => (⟨(i 1).val - 16 * k.val, by omega⟩ : Fin 16) : S1x16.Idx) a).val := by
      intro a
      match a with
      | 0 => show (i 0).val = k0_off1 k 0 + 1 * 0; omega
      | 1 => show (i 1).val = k0_off1 k 1 + 1 * ((i 1).val - 16 * k.val); omega
    refine (aB_hit _ _ _ _ i hx).trans ?_
    rw [pay2_apply]
    unfold firstAt
    rw [if_pos (by omega)]
    refine congrArg₂ FloatOps.addf ?_ ?_
    · refine Eq.trans (b := firstAt t k.val i) (congrArg (firstAt t k.val) (Rect.emb_eq_of_coords _ _ i hx)) ?_
      unfold firstAt
      rw [if_neg (by omega)]
    · refine congrArg posRow (funext fun a => Fin.ext ?_)
      match a with
      | 0 => show k0_off2 k 0 + 1 * ((i 1).val - 16 * k.val) = (i 1).val; omega
  · refine (aB_miss _ _ _ i (Rect.not_mem_set_of_axis _ i 1 (16 * k.val) 16 o11 rfl rfl (by omega))).trans ?_
    show firstAt t k.val i = _
    unfold firstAt
    by_cases hl : (i 1).val < 16 * k.val
    · rw [if_pos hl, if_pos (by omega)]
    · rw [if_neg hl, if_neg (by omega)]

/-- One trip of the second loop adds the position in one more block of sixteen columns of the last row. -/
theorem gathered_step (k : Fin k0_t2_loop.trips) (h₁) (h₂) (i) :
    ((gB).view.writes (Elt F) (gatheredAt x t k.val) [⟨Rect.unit (s := S16x512) (k0_off3 k) S1x16.size h₁,
      k0_pay1 (View.readAt (Elt F) (gB).view (Rect.unit (s := S16x512) (k0_off3 k) S1x16.size h₁).toLoadRect (gatheredAt x t k.val))
        (View.readAt (Elt F) (qB).view (Rect.unit (s := S512) (k0_off4 k) S16.size h₂).toLoadRect (posRow (F := F)))⟩] : S16x512.Idx → F .f32) i
      = gatheredAt x t (k.val + 1) i := by
  have o30 : k0_off3 k 0 = 15 := congrFun (off3 k) 0
  have o31 : k0_off3 k 1 = 16 * k.val := congrFun (off3 k) 1
  have o4 : k0_off4 k 0 = 16 * k.val := congrFun (off4 k) 0
  by_cases hr : (i 0).val = 15
  · by_cases hb : 16 * k.val ≤ (i 1).val ∧ (i 1).val < 16 * k.val + 16
    · have hx : ∀ a, (i a).val = (Rect.unit (s := S16x512) (k0_off3 k) S1x16.size h₁).off a
          + (Rect.unit (s := S16x512) (k0_off3 k) S1x16.size h₁).stride a * ((fun a => match a with | 0 => (⟨0, by decide⟩ : Fin 1) | 1 => (⟨(i 1).val - 16 * k.val, by omega⟩ : Fin 16) : S1x16.Idx) a).val := by
        intro a
        match a with
        | 0 => show (i 0).val = k0_off3 k 0 + 1 * 0; omega
        | 1 => show (i 1).val = k0_off3 k 1 + 1 * ((i 1).val - 16 * k.val); omega
      refine (gB_hit _ _ _ _ i hx).trans ?_
      rw [pay1_apply]
      unfold gatheredAt
      rw [if_pos (by omega)]
      refine congrArg₂ FloatOps.addf ?_ ?_
      · refine Eq.trans (b := gatheredAt x t k.val i) (congrArg (gatheredAt x t k.val) (Rect.emb_eq_of_coords _ _ i hx)) ?_
        unfold gatheredAt
        rw [if_neg (by omega)]
      · refine congrArg posRow (funext fun a => Fin.ext ?_)
        match a with
        | 0 => show k0_off4 k 0 + 1 * ((i 1).val - 16 * k.val) = (i 1).val; omega
    · refine (gB_miss _ _ _ i (Rect.not_mem_set_of_axis _ i 1 (16 * k.val) 16 o31 rfl rfl (by omega))).trans ?_
      show gatheredAt x t k.val i = _
      unfold gatheredAt
      by_cases hl : (i 1).val < 16 * k.val
      · rw [if_pos ⟨hr, hl⟩, if_pos (by omega)]
      · rw [if_neg (by omega), if_neg (by omega)]
  · have h16 : (i 0).val < 16 := (i 0).isLt
    refine (gB_miss _ _ _ i (Rect.not_mem_set_of_axis _ i 0 15 1 o30 rfl rfl (by omega))).trans ?_
    show gatheredAt x t k.val i = _
    unfold gatheredAt
    rw [if_neg (by omega), if_neg (by omega)]

omit [FloatOps F] in
theorem at16_symm : ∀ (k : Fin 16) (h : 16 = S16.numel), S16.rowMajor.symm (k.cast h) = at16 k := by decide +kernel

/-- A gather of one block of columns delivers that block of the rows the sixteen indices name. -/
theorem gather_piece (c : ℕ) (hc) (hc') (hs) (hn : S16.numel = S16x128.size gathers_S30522x128_S16x128.axis')
    (hin : ∀ y, (View.read (Elt F) (iB).view (words x) y : BitVec 32).toNat < S30522x128.size gathers_S30522x128_S16x128.axis) (y : S16x128.Idx) :
    (SparseCore.gatherPayload gathers_S30522x128_S16x128
      (View.read (Elt F) ((tW).slice (Rect.unit (s := S30522x512) ![0, c] S30522x128.size hc) hs).view t)
      (SparseCore.rows (View.read (Elt F) (iB).view (words x)) hn hin) : S16x128.Idx → F .f32) y
      = gatheredAt x t 0 ((Rect.unit (s := S16x512) ![0, c] S16x128.size hc').emb y) := by
  unfold gatheredAt
  rw [if_neg (by omega)]
  refine congrArg t (funext fun a => Fin.ext ?_)
  match a with
  | 0 =>
    show 0 + 1 * (gathers_S30522x128_S16x128.idx _ y gathers_S30522x128_S16x128.axis).val = _
    rw [Shape.Gathers.idx_axis]
    have e : ∀ r : Fin 16, r.val = (y 0).val → at16 r = S16.rowMajor.symm ((y 0).cast hn.symm) := fun r hr =>
      (congrArg at16 (Fin.ext hr)).trans (at16_symm (y 0) hn.symm).symm
    have hlt : (words x (S16.rowMajor.symm ((y 0).cast hn.symm))).toNat < 30522 := hin _
    refine Eq.trans ?_ (congrArg (fun q => (words x q).toNat % 30522) (e _ ?_).symm)
    · show 0 + 1 * (words x (S16.rowMajor.symm ((y 0).cast hn.symm))).toNat = (words x (S16.rowMajor.symm ((y 0).cast hn.symm))).toNat % 30522
      rw [Nat.mod_eq_of_lt hlt]
      omega
    · show 0 + 1 * (y 0).val = (y 0).val
      omega
  | 1 =>
    show c + 1 * (gathers_S30522x128_S16x128.idx _ y 1).val = c + 1 * (y 1).val
    rw [Shape.Gathers.idx_of_ne _ _ _ _ (by decide)]
    rfl

omit [FloatOps F] in
theorem col_mem (c : ℕ) (h) (i : S16x512.Idx) (hl : c ≤ (i 1).val) (hu : (i 1).val < c + 128) :
    i ∈ (Rect.unit (s := S16x512) ![0, c] S16x128.size h).set := by
  refine (LoadRect.mem_set (r := (Rect.unit (s := S16x512) ![0, c] S16x128.size h).toLoadRect)).mpr fun a => ?_
  match a with
  | 0 => exact ⟨(i 0).val, (i 0).isLt, by show (i 0).val = 0 + 1 * (i 0).val; omega⟩
  | 1 => exact ⟨(i 1).val - c, by show (i 1).val - c < 128; omega, by show (i 1).val = c + 1 * ((i 1).val - c); omega⟩

/-- The four gathers together leave the rows the sixteen indices name, no position added yet. -/
theorem gathered_all (h0) (h1) (h2) (h3)
    (p0 p1 p2 p3 : S16x128.Idx → F .f32)
    (e0 : ∀ y, p0 y = gatheredAt x t 0 ((Rect.unit (s := S16x512) ![0, 0] S16x128.size h0).emb y))
    (e1 : ∀ y, p1 y = gatheredAt x t 0 ((Rect.unit (s := S16x512) ![0, 128] S16x128.size h1).emb y))
    (e2 : ∀ y, p2 y = gatheredAt x t 0 ((Rect.unit (s := S16x512) ![0, 256] S16x128.size h2).emb y))
    (e3 : ∀ y, p3 y = gatheredAt x t 0 ((Rect.unit (s := S16x512) ![0, 384] S16x128.size h3).emb y)) (f) (i : S16x512.Idx) :
    ((gB).view.writes (Elt F) f [⟨Rect.unit (s := S16x512) ![0, 384] S16x128.size h3, p3⟩, ⟨Rect.unit (s := S16x512) ![0, 256] S16x128.size h2, p2⟩,
      ⟨Rect.unit (s := S16x512) ![0, 128] S16x128.size h1, p1⟩, ⟨Rect.unit (s := S16x512) ![0, 0] S16x128.size h0, p0⟩] : S16x512.Idx → F .f32) i
      = gatheredAt x t 0 i := by
  refine View.read_writes_apply_of_pieces (Val := Elt F) (gB).view f (gatheredAt x t 0)
    [⟨Rect.unit (s := S16x512) ![0, 384] S16x128.size h3, p3⟩, ⟨Rect.unit (s := S16x512) ![0, 256] S16x128.size h2, p2⟩,
      ⟨Rect.unit (s := S16x512) ![0, 128] S16x128.size h1, p1⟩, ⟨Rect.unit (s := S16x512) ![0, 0] S16x128.size h0, p0⟩] ?_ i ?_
  swap
  · have hi : (i 1).val < 512 := (i 1).isLt
    by_cases h3' : 384 ≤ (i 1).val
    · exact ⟨_, List.mem_cons_self, col_mem 384 h3 i h3' (by omega)⟩
    by_cases h2' : 256 ≤ (i 1).val
    · exact ⟨_, List.mem_cons_of_mem _ List.mem_cons_self, col_mem 256 h2 i h2' (by omega)⟩
    by_cases h1' : 128 ≤ (i 1).val
    · exact ⟨_, List.mem_cons_of_mem _ (List.mem_cons_of_mem _ List.mem_cons_self), col_mem 128 h1 i h1' (by omega)⟩
    · exact ⟨_, List.mem_cons_of_mem _ (List.mem_cons_of_mem _ (List.mem_cons_of_mem _ List.mem_cons_self)), col_mem 0 h0 i (by omega) (by omega)⟩
  intro p hp
  simp only [List.mem_cons, List.not_mem_nil] at hp
  rcases hp with rfl | rfl | rfl | rfl | hp
  · exact e3
  · exact e2
  · exact e1
  · exact e0
  · exact hp.elim

/-- Row 1 of the table with the positions, copied out, is the result's row 0. -/
theorem row0_copied (n : ℕ) (hn : n = 32) (f) (i) (hi : i ∈ ((oW).slice (Rect.unit (s := S2x512) ![0, 0] S1x512.size inb_S2x512_S1x512_0_0) (fun _ => rfl)).view.set) :
    (((oW).slice (Rect.unit (s := S2x512) ![0, 0] S1x512.size inb_S2x512_S1x512_0_0) (fun _ => rfl)).view.writes (Elt F) f
      [⟨Rect.whole S1x512, ReadAs.same.apply (View.read (Elt F) (aB).view (firstAt t n))⟩] : S2x512.Idx → F .f32) i
      = result x t i := by
  subst hn
  obtain ⟨y, rfl⟩ : ∃ y, (Rect.unit (s := S2x512) ![0, 0] S1x512.size inb_S2x512_S1x512_0_0).emb y = i := by
    obtain ⟨y, -, e⟩ := Finset.mem_map.mp hi
    exact ⟨y, e⟩
  refine (oRow_hit _ _ _ f _ y).trans ?_
  show firstAt t 32 y = _
  have h0 : (y 0).val < 1 := (y 0).isLt
  have h1 : (y 1).val < 512 := (y 1).isLt
  have e : ∀ i : S2x512.Idx, (i 0).val = (y 0).val → (i 1).val = (y 1).val → firstAt t 32 y = result x t i := by
    intro i e0 e1
    unfold firstAt result
    have e1' : (i 1 : Fin 512) = y 1 := Fin.ext e1
    rw [if_pos (by omega), if_pos (by omega), e1']
  refine e _ ?_ ?_
  · show 0 + 1 * (y 0).val = (y 0).val; omega
  · show 0 + 1 * (y 1).val = (y 1).val; omega

/-- The last gathered row with the positions, copied out, is the result's row 1. -/
theorem row1_copied (n : ℕ) (hn : n = 32) (h) (hs) (f) (i) (hi : i ∈ ((oW).slice (Rect.unit (s := S2x512) ![1, 0] S1x512.size inb_S2x512_S1x512_1_0) (fun _ => rfl)).view.set) :
    (((oW).slice (Rect.unit (s := S2x512) ![1, 0] S1x512.size inb_S2x512_S1x512_1_0) (fun _ => rfl)).view.writes (Elt F) f
      [⟨Rect.whole S1x512, ReadAs.same.apply (View.read (Elt F) ((gB).slice (Rect.unit (s := S16x512) ![15, 0] S1x512.size h) hs).view
        (gatheredAt x t n))⟩] : S2x512.Idx → F .f32) i
      = result x t i := by
  subst hn
  obtain ⟨y, rfl⟩ : ∃ y, (Rect.unit (s := S2x512) ![1, 0] S1x512.size inb_S2x512_S1x512_1_0).emb y = i := by
    obtain ⟨y, -, e⟩ := Finset.mem_map.mp hi
    exact ⟨y, e⟩
  refine (oRow_hit _ _ _ f _ y).trans ?_
  have h0 : (y 0).val < 1 := (y 0).isLt
  have h1 : (y 1).val < 512 := (y 1).isLt
  have e : ∀ (i : S2x512.Idx) (j : S16x512.Idx), (i 0).val = 1 → (i 1).val = (y 1).val → (j 0).val = 15 → (j 1).val = (y 1).val →
      gatheredAt x t 32 j = result x t i := by
    intro i j e0 e1 f0 f1
    unfold gatheredAt result
    have e1' : (i 1 : Fin 512) = y 1 := Fin.ext e1
    have f1' : (j 1 : Fin 512) = y 1 := Fin.ext f1
    have f0' : j 0 = (15 : Fin 16) := Fin.ext f0
    rw [if_pos (by omega), if_neg (by omega), e1', f1', f0']
  refine e _ _ ?_ ?_ ?_ ?_
  · show 1 + 1 * (y 0).val = 1; omega
  · show 0 + 1 * (y 1).val = (y 1).val; omega
  · show 15 + 1 * (y 0).val = 15; omega
  · show 0 + 1 * (y 1).val = (y 1).val; omega

end Value

section Tile

variable (d : Dev nD) (L : grid0.Coords)

abbrev cV (L : grid0.Coords) : Fin τ.nSC := (L 0).castLE hcore0
abbrev jV (L : grid0.Coords) : Fin τ.nSub := (L 1).castLE hsub0
abbrev VT : Thread nD τ := V d (cV L) (jV L)

/-- The subcore's nine DMA semaphores: the kernel's eight and the one of its last copy. -/
abbrev cellN (i : Fin 9) : GSem nD τ sig := (VT d L, .dma i)

omit [FloatOps F] in
theorem cond_one : ∀ L : grid0.Coords, k0_cond1 L = 1#1 := by decide +kernel

/-- The list as the gathers read it: every word names a row of the table. -/
theorem list_inb (hpre : PreOK m) :
    ∀ x, ((iB).view.read (Elt F) (words (m (xLoc d)) : Buf (Elt F) ((iB).view.loc (VT d L))) x : BitVec 32).toNat
      < S30522x128.size gathers_S30522x128_S16x128.axis := by
  intro x
  exact hpre d _

/-- Before trip `k` of the first loop: row 1 of the table in its buffer, the position added in `k` blocks of sixteen columns. -/
def inv1 (k : ℕ) (_ : PUnit) : sProp 𝕄 :=
  iprop(((aB).view.loc (VT d L) ↦[(aB).view.set]{fullShare} (firstAt (m (tLoc d)) k : Buf (Elt F) ((aB).view.loc (VT d L))))
    ∗ (qB).view.loc (VT d L) ↦[(qB).view.set]{fullShare} (posRow : Buf (Elt F) ((qB).view.loc (VT d L))))

/-- Before trip `k` of the second loop: the gathered rows, the position added in `k` blocks of sixteen columns of the last one. -/
def inv2 (k : ℕ) (_ : PUnit) : sProp 𝕄 :=
  iprop(((gB).view.loc (VT d L) ↦[(gB).view.set]{fullShare} (gatheredAt (m (xLoc d)) (m (tLoc d)) k : Buf (Elt F) ((gB).view.loc (VT d L))))
    ∗ (qB).view.loc (VT d L) ↦[(qB).view.set]{fullShare} (posRow : Buf (Elt F) ((qB).view.loc (VT d L))))

/-- The result's row 0 and row 1, as the two copies out address them. -/
abbrev oRow0 : Memref sig .scVector .hbm S1x512 .f32 :=
  (oW).slice (Rect.unit (s := S2x512) ![0, 0] S1x512.size inb_S2x512_S1x512_0_0) (fun _ => rfl)
abbrev oRow1 : Memref sig .scVector .hbm S1x512 .f32 :=
  (oW).slice (Rect.unit (s := S2x512) ![1, 0] S1x512.size inb_S2x512_S1x512_1_0) (fun _ => rfl)

theorem tile_run (hpre : PreOK m) (O : CellTallies nD τ sig (HIx 1)) (W : Waits sig (HIx 1))
    (fi : Buf (Elt F) ((iB).view.loc (VT d L))) (fa : Buf (Elt F) ((aB).view.loc (VT d L)))
    (fg : Buf (Elt F) ((gB).view.loc (VT d L))) (fq : Buf (Elt F) ((qB).view.loc (VT d L))) :
    (iprop(Transfers.MayWaits (VT d L) (default : HIx 1) O
        ∗ ((wW).view.loc (VT d L) ↦[(wW).view.set]{fullShare} (words (m (xLoc d)) : Buf (Elt F) (wLoc d)))
        ∗ ((pW).view.loc (VT d L) ↦[(pW).view.set]{fullShare} (posRow : Buf (Elt F) (pLoc d)))
        ∗ ((tW).view.loc (VT d L) ↦{Transfers.shareTokN fullShare 2} m (tLoc d))
        ∗ ((tW).view.loc (VT d L) ↦{Transfers.shareTokN fullShare 3} m (tLoc d))
        ∗ ((tW).view.loc (VT d L) ↦{Transfers.shareTokN fullShare 4} m (tLoc d))
        ∗ ((tW).view.loc (VT d L) ↦{Transfers.shareTokN fullShare 5} m (tLoc d))
        ∗ ((tW).view.loc (VT d L) ↦{Transfers.shareTokN fullShare 6} m (tLoc d))
        ∗ ((oRow0).view.loc (VT d L) ↦[(oRow0).view.set]{fullShare} m (oLoc d))
        ∗ ((oRow1).view.loc (VT d L) ↦[(oRow1).view.set]{fullShare} m (oLoc d))
        ∗ ((iB).view.loc (VT d L) ↦[(iB).view.set]{fullShare} fi)
        ∗ ((aB).view.loc (VT d L) ↦[(aB).view.set]{fullShare} fa)
        ∗ ((gB).view.loc (VT d L) ↦[(gB).view.set]{fullShare} fg)
        ∗ ((qB).view.loc (VT d L) ↦[(qB).view.set]{fullShare} fq)
        ∗ semVal (cellN d L 0) 0 ∗ semVal (cellN d L 1) 0 ∗ semVal (cellN d L 2) 0 ∗ semVal (cellN d L 3) 0 ∗ semVal (cellN d L 4) 0
        ∗ semVal (cellN d L 5) 0 ∗ semVal (cellN d L 6) 0 ∗ semVal (cellN d L 7) 0 ∗ semVal (cellN d L 8) 0
        ∗ owes (VT d L) O W) : sProp 𝕄)
      ⊢ wp frame (wpE (defs₀ (F := F)) 𝒱₀ (VT d L) none) Set.univ
          (cc0__sc_body L wW (Memref.isWhole_whole _) pW (Memref.isWhole_whole _) tW (Memref.isWhole_whole _) oW (Memref.isWhole_whole _)
            iB (Memref.isWhole_whole _) aB (Memref.isWhole_whole _) gB (Memref.isWhole_whole _) qB (Memref.isWhole_whole _) cc0_scratch4 cc0_scoped0)
          fun _ => iprop(((wW).view.loc (VT d L) ↦[(wW).view.set]{fullShare} (words (m (xLoc d)) : Buf (Elt F) (wLoc d)))
            ∗ ((pW).view.loc (VT d L) ↦[(pW).view.set]{fullShare} (posRow : Buf (Elt F) (pLoc d)))
            ∗ ((tW).view.loc (VT d L) ↦{Transfers.shareTokN fullShare 2} m (tLoc d))
            ∗ ((tW).view.loc (VT d L) ↦{Transfers.shareTokN fullShare 3} m (tLoc d))
            ∗ ((tW).view.loc (VT d L) ↦{Transfers.shareTokN fullShare 4} m (tLoc d))
            ∗ ((tW).view.loc (VT d L) ↦{Transfers.shareTokN fullShare 5} m (tLoc d))
            ∗ ((tW).view.loc (VT d L) ↦{Transfers.shareTokN fullShare 6} m (tLoc d))
            ∗ ((oRow0).view.loc (VT d L) ↦[(oRow0).view.set]{fullShare} (result (m (xLoc d)) (m (tLoc d)) : Buf (Elt F) (oLoc d)))
            ∗ ((oRow1).view.loc (VT d L) ↦[(oRow1).view.set]{fullShare} (result (m (xLoc d)) (m (tLoc d)) : Buf (Elt F) (oLoc d)))
            ∗ (∃ f, (iB).view.loc (VT d L) ↦[(iB).view.set]{fullShare} f)
            ∗ (∃ f, (aB).view.loc (VT d L) ↦[(aB).view.set]{fullShare} f)
            ∗ (∃ f, (gB).view.loc (VT d L) ↦[(gB).view.set]{fullShare} f)
            ∗ (∃ f, (qB).view.loc (VT d L) ↦[(qB).view.set]{fullShare} f)
            ∗ semVal (cellN d L 0) 0 ∗ semVal (cellN d L 1) 0 ∗ semVal (cellN d L 2) 0 ∗ semVal (cellN d L 3) 0 ∗ semVal (cellN d L 4) 0
            ∗ semVal (cellN d L 5) 0 ∗ semVal (cellN d L 6) 0 ∗ semVal (cellN d L 7) 0 ∗ semVal (cellN d L 8) 0
            ∗ ∃ W', ⌜∀ p ∈ W', p ∈ W ∨ p.2 = none⌝ ∗ owes (VT d L) O W') := by
  iintro ⟨#Hmw, Hw, Hp, Ht2, Ht3, Ht4, Ht5, Ht6, Ho0, Ho1, Hi, Ha, Hg, Hq, Hc0, Hc1, Hc2, Hc3, Hc4, Hc5, Hc6, Hc7, Hc8, HO⟩
  have k0_h1 := cond_one L
  sl_unfold [cc0__sc_body]
  sl_exec
  ihave Hi := (Entails.of_eq (show _ = ((iB).view.loc (VT d L) ↦[(iB).view.set]{fullShare} (words (m (xLoc d)) : Buf (Elt F) ((iB).view.loc (VT d L))) : sProp 𝕄) from
    pointsTo_congr ?h0)) $$ Hi
  · intro i hi; exact list_copied (m (xLoc d)) _ i
  ihave Hi := (Entails.of_eq (tokens (F := F) _ _ fullShare)) $$ Hi
  icases Hi with ⟨Hir, Hi0, Hi1, Hi2, Hi3, Hi4, Hi5, Hi6⟩
  have hin := list_inb m d hpre
  sl_exec
  sl_for (inv1 m d L) $$ [Ha Hq]
  case region =>
    intro k _
    unfold inv1
    iintro ⟨Ha, Hq⟩
    sl_exec
    sl_step
    isplitl [Ha]
    · iapply (Entails.of_eq (pointsTo_congr ?h1)); swap; · iexact Ha
      intro i hi; exact first_step (m (tLoc d)) k _ _ i
    · iexact Hq
  · unfold inv1
    isplitl [Ha]
    · iapply (Entails.of_eq (pointsTo_congr ?h2)); swap; · iexact Ha
      intro i hi; exact first_copied (m (tLoc d)) _ _ _ i
    · iapply (Entails.of_eq (pointsTo_congr ?h7)); swap; · iexact Hq
      intro i hi; exact pos_copied _ i
  iintro %_ HI
  unfold inv1
  icases HI with ⟨Ha, Hq⟩
  sl_exec
  sl_for (inv2 m d L) $$ [Hg Hq]
  case region =>
    intro k _
    unfold inv2
    iintro ⟨Hg, Hq⟩
    sl_exec
    sl_step
    isplitl [Hg]
    · iapply (Entails.of_eq (pointsTo_congr ?h3)); swap; · iexact Hg
      intro i hi; exact gathered_step (m (xLoc d)) (m (tLoc d)) k _ _ i
    · iexact Hq
  · unfold inv2
    isplitl [Hg]
    · iapply (Entails.of_eq (pointsTo_congr ?h4)); swap; · iexact Hg
      intro i hi; exact gathered_all (m (xLoc d)) (m (tLoc d)) _ _ _ _ _ _ _ _ (gather_piece _ _ 0 _ _ _ _ hin) (gather_piece _ _ 128 _ _ _ _ hin) (gather_piece _ _ 256 _ _ _ _ hin) (gather_piece _ _ 384 _ _ _ _ hin) _ i
    · iexact Hq
  iintro %_ HI
  unfold inv2
  icases HI with ⟨Hg, Hq⟩
  sl_exec
  sl_step
  isplitl [Hw]; · iexact Hw
  isplitl [Hp]; · iexact Hp
  isplitl [Ht2]; · iexact Ht2
  isplitl [Ht3]; · iexact Ht3
  isplitl [Ht4]; · iexact Ht4
  isplitl [Ht5]; · iexact Ht5
  isplitl [Ht6]; · iexact Ht6
  isplitl [Ho0]
  · iapply (Entails.of_eq (pointsTo_congr ?h5)); swap; · iexact Ho0
    intro i hi; exact row0_copied (m (xLoc d)) (m (tLoc d)) _ (by decide) _ i hi
  isplitl [Ho1]
  · iapply (Entails.of_eq (pointsTo_congr ?h6)); swap; · iexact Ho1
    intro i hi; exact row1_copied (m (xLoc d)) (m (tLoc d)) _ (by decide) _ _ _ i hi
  isplitl [Hir Hi0 Hi1 Hi2 Hi3 Hi4 Hi5 Hi6]
  · iexists (words (m (xLoc d)) : Buf (Elt F) ((iB).view.loc (VT d L)))
    iapply (Entails.of_eq (tokens (F := F) _ _ fullShare).symm)
    isplitl [Hir]; · iexact Hir
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    iexact Hi6
  isplitl [Ha]; · iexists _; iexact Ha
  isplitl [Hg]; · iexists _; iexact Hg
  isplitl [Hq]; · iexists _; iexact Hq
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  iexists _; isplitr; swap; · iexact HO
  · ipureintro
    intro p hp
    repeat
      rcases Finset.mem_insert.mp hp with hp | hp
      · exact .inr (hp ▸ rfl)
    exact .inl hp

end Tile

end Cert.Proof.KernelRun

end
-- ==== Proof.KernelLaunch.lean ====
/-
  The launch of the whole kernel: the one vector subcore's obligation from its run, the host operations before the
  call, and the run of the program, which ends with the result array holding `result` of the launch's arguments.
-/
module

public import proofs.«01_k».proof.Proof.KernelRun

@[expose] public section

noncomputable section

namespace Cert.Proof.KernelRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.Tactic

variable {F : FTy → Type}

local notation "𝕄" => MT nD τ sig (HIx 1) (Elt F) ℕ UU ℕ
local notation "wW" => (Memref.whole Cert.KernelIdeal.main_v0_scv : Memref Cert.KernelIdeal.sig Kind.scVector Space.hbm Cert.KernelIdeal.S16 EltTy.i32)
local notation "pW" => (Memref.whole Cert.KernelIdeal.main_v4_scv : Memref Cert.KernelIdeal.sig Kind.scVector Space.hbm Cert.KernelIdeal.S512 EltTy.f32)
local notation "tW" => (Memref.whole Cert.KernelIdeal.main_arg1_scv : Memref Cert.KernelIdeal.sig Kind.scVector Space.hbm Cert.KernelIdeal.S30522x512 EltTy.f32)
local notation "oW" => (Memref.whole Cert.KernelIdeal.main_v5_scv : Memref Cert.KernelIdeal.sig Kind.scVector Space.hbm Cert.KernelIdeal.S2x512 EltTy.f32)
local notation "iB" => (Memref.whole Cert.KernelIdeal.cc0_scratch0 : Memref Cert.KernelIdeal.sig Kind.scVector Space.vmem Cert.KernelIdeal.S16 EltTy.i32)
local notation "aB" => (Memref.whole Cert.KernelIdeal.cc0_scratch1 : Memref Cert.KernelIdeal.sig Kind.scVector Space.vmem Cert.KernelIdeal.S1x512 EltTy.f32)
local notation "gB" => (Memref.whole Cert.KernelIdeal.cc0_scratch2 : Memref Cert.KernelIdeal.sig Kind.scVector Space.vmem Cert.KernelIdeal.S16x512 EltTy.f32)
local notation "qB" => (Memref.whole Cert.KernelIdeal.cc0_scratch3 : Memref Cert.KernelIdeal.sig Kind.scVector Space.vmem Cert.KernelIdeal.S512 EltTy.f32)

variable (m : (ℓ : Loc nD τ sig) → Buf (Elt F) ℓ) (ρ : Dev nD → PrngReg)

variable [FloatOps F]

/-! ## What the call takes and gives back -/

/-- The call takes the sixteen indices, the row of positions, the table and the result array; it gives them back as they
    were, the result array at the result. -/
abbrev inPts (d : Dev nD) : sProp 𝕄 := iprop(wPts m d ∗ pPts d ∗ tPts m d ∗ oPts d (m (oLoc d)))
abbrev outPts (d : Dev nD) : sProp 𝕄 := iprop(wPts m d ∗ pPts d ∗ tPts m d ∗ oPts d (result (m (xLoc d)) (m (tLoc d))))

def P : (K (F := F)).Pay (nD := nD) (Val := Elt F) (Name := ℕ) (U := UU) where
  st := fun _ d _ => inPts m d
  dn := fun _ d _ => outPts m d
  go := fun _ d _ _ => inPts m d
  td := fun _ d _ _ => outPts m d
  x := fun _ _ => iprop(emp)

instance P_storable : (P (F := F) m).IsStorable where
  st _ d c := by unfold P; infer_instance
  dn _ d c := by unfold P; infer_instance
  go _ d _ _ := by unfold P; infer_instance
  td _ d _ _ := by unfold P; infer_instance

/-! ## The subcore's task -/

section Tile

variable (d : Dev nD) (L : grid0.Coords)

omit [FloatOps F] in
theorem sep_assoc_eq (A B C : sProp 𝕄) : iprop((A ∗ B) ∗ C) = iprop(A ∗ B ∗ C) := BI.Entails.antisymm BI.sep_assoc BI.sep_assoc'

omit [FloatOps F] in
/-- Of the subcore's semaphores, the nine the kernel uses and the others. -/
theorem ownSems0_V :
    (ownSems0 (VT d L) : sProp 𝕄)
      = iprop(semVal (cellN d L 0) 0 ∗ semVal (cellN d L 1) 0 ∗ semVal (cellN d L 2) 0 ∗ semVal (cellN d L 3) 0 ∗ semVal (cellN d L 4) 0
        ∗ semVal (cellN d L 5) 0 ∗ semVal (cellN d L 6) 0 ∗ semVal (cellN d L 7) 0 ∗ semVal (cellN d L 8) 0
        ∗ bigSep (ownCells (VT d L) \ Finset.univ.image (cellN d L)) fun g => semVal g 0) := by
  have hs : (Finset.univ.image (cellN d L)) ⊆ ownCells (VT d L) := fun g hg => by
    obtain ⟨i, -, rfl⟩ := Finset.mem_image.mp hg
    refine mem_ownCells.mpr ⟨rfl, ?_⟩
    show (SemLoc.dma i : SemLoc sig).isScoped .scVector = true
    clear hg
    revert i
    decide
  have inj : ∀ i j : Fin 9, i ≠ j → cellN d L i ≠ cellN d L j := fun i j h e => h (by
    have e2 := congrArg Prod.snd e
    exact SemLoc.dma.inj e2)
  unfold SparseCore.Cfg.ownSems0
  conv_lhs => rw [← Finset.union_sdiff_of_subset hs]
  rw [bigSep_union Finset.disjoint_sdiff, show (Finset.univ.image (cellN d L)) = {cellN d L 0, cellN d L 1, cellN d L 2, cellN d L 3, cellN d L 4,
    cellN d L 5, cellN d L 6, cellN d L 7, cellN d L 8} from by
      rw [show (Finset.univ : Finset (Fin 9)) = {0, 1, 2, 3, 4, 5, 6, 7, 8} by decide]; simp only [Finset.image_insert, Finset.image_singleton]]
  have nm : ∀ (i : Fin 9) (s : Finset (Fin 9)), i ∉ s → cellN d L i ∉ s.image (cellN d L) := fun i s h hm => by
    obtain ⟨j, hj, e⟩ := Finset.mem_image.mp hm
    exact inj j i (fun e => h (e ▸ hj)) e
  have n0 := nm 0 {1, 2, 3, 4, 5, 6, 7, 8} (by decide)
  have n1 := nm 1 {2, 3, 4, 5, 6, 7, 8} (by decide)
  have n2 := nm 2 {3, 4, 5, 6, 7, 8} (by decide)
  have n3 := nm 3 {4, 5, 6, 7, 8} (by decide)
  have n4 := nm 4 {5, 6, 7, 8} (by decide)
  have n5 := nm 5 {6, 7, 8} (by decide)
  have n6 := nm 6 {7, 8} (by decide)
  have n7 := nm 7 {8} (by decide)
  simp only [Finset.image_insert, Finset.image_singleton] at n0 n1 n2 n3 n4 n5 n6 n7
  rw [SparseCore.bigSep_insert' n0, SparseCore.bigSep_insert' n1, SparseCore.bigSep_insert' n2, SparseCore.bigSep_insert' n3,
    SparseCore.bigSep_insert' n4, SparseCore.bigSep_insert' n5, SparseCore.bigSep_insert' n6, SparseCore.bigSep_insert' n7, bigSep_singleton]
  show iprop(_ ∗ _) = _
  simp only [sep_assoc_eq]

omit [FloatOps F] in
/-- Of the subcore's buffers, the four the kernel uses and the others. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have ne : ∀ {a b : Ref sig .scVector}, a ≠ b → (Proc.scVector (τ := τ) (cV L) (jV L)).devRef a ≠ (Proc.scVector (cV L) (jV L)).devRef b :=
    fun h e => h (Proc.devRef_injective _ e)
  have mem : ∀ b : Ref sig .scVector, ((Proc.scVector (τ := τ) (cV L) (jV L)).devRef b).owner = .proc (.scVector (cV L) (jV L)) → (Proc.scVector (τ := τ) (cV L) (jV L)).devRef b ∈ ownRefs (τ := τ) (.scVector (cV L) (jV L)) :=
    fun b h => SparseCore.Cfg.mem_ownRefs_of_owner (p := Proc.scVector (cV L) (jV L)) (b := (Proc.scVector (cV L) (jV L)).devRef b) h
  unfold SparseCore.Cfg.ownBufs
  refine (SparseCore.bigSep_erase' (mem cc0_scratch0 rfl)).trans ?_
  rw [SparseCore.bigSep_erase' (Finset.mem_erase.mpr ⟨ne (by decide), mem cc0_scratch1 rfl⟩),
    SparseCore.bigSep_erase' (Finset.mem_erase.mpr ⟨ne (by decide), Finset.mem_erase.mpr ⟨ne (by decide), mem cc0_scratch2 rfl⟩⟩),
    SparseCore.bigSep_erase' (Finset.mem_erase.mpr ⟨ne (by decide), Finset.mem_erase.mpr ⟨ne (by decide), Finset.mem_erase.mpr ⟨ne (by decide), mem cc0_scratch3 rfl⟩⟩⟩)]

omit [FloatOps F] in
theorem rows_compl : (Finset.univ \ (oRow0).view.set : Finset S2x512.Idx) = (oRow1).view.set := by
  ext i
  have hl : ∀ (r : Fin 2) (h), i ∈ ((oW).slice (Rect.unit (s := S2x512) ![r.val, 0] S1x512.size h) (fun _ => rfl)).view.set ↔ (i 0).val = r.val := by
    intro r h
    constructor
    · intro hi
      obtain ⟨y, -, e⟩ := Finset.mem_map.mp hi
      have h0 : (y 0).val < 1 := (y 0).isLt
      have e0 : r.val + 1 * (y 0).val = (i 0).val := congrArg (fun q : S2x512.Idx => (q 0).val) e
      omega
    · intro hi
      refine Finset.mem_map.mpr ⟨(fun a => match a with | 0 => (⟨0, by decide⟩ : Fin 1) | 1 => (i 1 : Fin 512) : S1x512.Idx), Finset.mem_univ _, ?_⟩
      refine Rect.emb_eq_of_coords (Rect.unit (s := S2x512) ![r.val, 0] S1x512.size h) _ i fun a => ?_
      match a with
      | 0 => show (i 0).val = r.val + 1 * 0; omega
      | 1 => show (i 1).val = 0 + 1 * (i 1).val; omega
  have h2 : (i 0).val < 2 := (i 0).isLt
  have a0 := hl 0 inb_S2x512_S1x512_0_0
  have a1 := hl 1 inb_S2x512_S1x512_1_0
  rw [Finset.mem_sdiff]
  constructor
  · rintro ⟨-, h⟩
    refine a1.mpr ?_
    have : ¬ (i 0).val = 0 := fun e => h (a0.mpr e)
    show (i 0).val = 1
    omega
  · intro h
    refine ⟨Finset.mem_univ _, fun h' => ?_⟩
    have e1 : (i 0).val = 1 := a1.mp h
    have e0 : (i 0).val = 0 := a0.mp h'
    omega

omit [FloatOps F] in
/-- The result array is its two rows. -/
theorem rows_eq (f : Buf (Elt F) (oLoc d)) :
    (oLoc d ↦{fullShare} f : sProp 𝕄)
      = iprop(((oRow0).view.loc (VT d L) ↦[(oRow0).view.set]{fullShare} f) ∗ ((oRow1).view.loc (VT d L) ↦[(oRow1).view.set]{fullShare} f)) := by
  have h := pointsTo_split_subset (Val := Elt F) (U := UU) (Name := ℕ) (Lvl := ℕ) (Ix := HIx 1) (ℓ := oLoc d) (q := fullShare) (f := f)
    (S := Finset.univ) (Finset.subset_univ ((oRow0).view.set : Finset S2x512.Idx))
  rw [show (Finset.univ \ ((oRow0).view.set : Finset S2x512.Idx) : Finset S2x512.Idx) = (oRow1).view.set from rows_compl] at h
  exact BI.Entails.antisymm h.1 h.2

omit [FloatOps F] in
theorem pts_w (f : Buf (Elt F) (wLoc d)) : ((wW).view.loc (VT d L) ↦[(wW).view.set]{fullShare} f : sProp 𝕄) = wLoc d ↦{fullShare} f := by
  simp only [Memref.view_whole, View.set_whole]
omit [FloatOps F] in
theorem pts_p (f : Buf (Elt F) (pLoc d)) : ((pW).view.loc (VT d L) ↦[(pW).view.set]{fullShare} f : sProp 𝕄) = pLoc d ↦{fullShare} f := by
  simp only [Memref.view_whole, View.set_whole]
omit [FloatOps F] in
theorem pts_i (f : Buf (Elt F) ((VT d L).loc cc0_scratch0)) : ((iB).view.loc (VT d L) ↦[(iB).view.set]{fullShare} f : sProp 𝕄) = (VT d L).loc cc0_scratch0 ↦{fullShare} f := by
  simp only [Memref.view_whole, View.set_whole]
omit [FloatOps F] in
theorem pts_a (f : Buf (Elt F) ((VT d L).loc cc0_scratch1)) : ((aB).view.loc (VT d L) ↦[(aB).view.set]{fullShare} f : sProp 𝕄) = (VT d L).loc cc0_scratch1 ↦{fullShare} f := by
  simp only [Memref.view_whole, View.set_whole]
omit [FloatOps F] in
theorem pts_g (f : Buf (Elt F) ((VT d L).loc cc0_scratch2)) : ((gB).view.loc (VT d L) ↦[(gB).view.set]{fullShare} f : sProp 𝕄) = (VT d L).loc cc0_scratch2 ↦{fullShare} f := by
  simp only [Memref.view_whole, View.set_whole]
omit [FloatOps F] in
theorem pts_q (f : Buf (Elt F) ((VT d L).loc cc0_scratch3)) : ((qB).view.loc (VT d L) ↦[(qB).view.set]{fullShare} f : sProp 𝕄) = (VT d L).loc cc0_scratch3 ↦{fullShare} f := by
  simp only [Memref.view_whole, View.set_whole]

/-- The task, from what the launch hands it: the run above between the arrays whole and the arrays whole. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ inPts m d
        ∗ scopedBufs (VT d L) ∗ scopedSems0 (VT d L) ∗ owes (VT d L) O W)
      ⊢ wp frame (wpE (defs₀ (F := F)) 𝒱₀ (VT d L) none) Set.univ
          (cc0__sc_body L wW (Memref.isWhole_whole _) pW (Memref.isWhole_whole _) tW (Memref.isWhole_whole _) oW (Memref.isWhole_whole _)
            iB (Memref.isWhole_whole _) aB (Memref.isWhole_whole _) gB (Memref.isWhole_whole _) qB (Memref.isWhole_whole _) cc0_scratch4 cc0_scoped0)
          fun _ => iprop(outPts m d ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hw, Hp, Ht, Ho⟩, ⟨⟨%fi, Hi⟩, ⟨%fa, Ha⟩, ⟨%fg, Hg⟩, ⟨%fq, Hq⟩, Hbufs⟩, ⟨Hc0, Hc1, Hc2, Hc3, Hc4, Hc5, Hc6, Hc7, Hc8, Hsems⟩, HO⟩
  ihave Hmw := (show levAts (K (F := F)).L (K (F := F)).lev ⊢ Transfers.MayWaits (VT d L) (default : HIx 1) O from
    (K (F := F)).mayWaits_none (thr := VT d L) hO) $$ Hlv
  ihave Hw := (Entails.of_eq (pts_w (F := F) d L _).symm) $$ Hw
  ihave Hp := (Entails.of_eq (pts_p (F := F) d L _).symm) $$ Hp
  ihave Hi := (Entails.of_eq (pts_i (F := F) d L _).symm) $$ Hi
  ihave Ha := (Entails.of_eq (pts_a (F := F) d L _).symm) $$ Ha
  ihave Hg := (Entails.of_eq (pts_g (F := F) d L _).symm) $$ Hg
  ihave Hq := (Entails.of_eq (pts_q (F := F) d L _).symm) $$ Hq
  ihave Ho := (Entails.of_eq (rows_eq (F := F) d L _)) $$ Ho
  icases Ho with ⟨Ho0, Ho1⟩
  ihave Ht := (Entails.of_eq (tokens (F := F) _ _ fullShare)) $$ Ht
  icases Ht with ⟨Htr, Ht0, Ht1, Ht2, Ht3, Ht4, Ht5, Ht6⟩
  ihave Hrun := (tile_run m d L hpre O W fi fa fg fq) $$ [Hmw Hw Hp Ht2 Ht3 Ht4 Ht5 Ht6 Ho0 Ho1 Hi Ha Hg Hq Hc0 Hc1 Hc2 Hc3 Hc4 Hc5 Hc6 Hc7 Hc8 HO]
  · isplitl [Hmw]; · iexact Hmw
    isplitl [Hw]; · iexact Hw
    isplitl [Hp]; · iexact Hp
    isplitl [Ht2]; · iexact Ht2
    isplitl [Ht3]; · iexact Ht3
    isplitl [Ht4]; · iexact Ht4
    isplitl [Ht5]; · iexact Ht5
    isplitl [Ht6]; · iexact Ht6
    isplitl [Ho0]; · iexact Ho0
    isplitl [Ho1]; · iexact Ho1
    isplitl [Hi]; · iexact Hi
    isplitl [Ha]; · iexact Ha
    isplitl [Hg]; · iexact Hg
    isplitl [Hq]; · iexact Hq
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact HO
  iapply (wp_wand frame _ _) $$ Hrun
  iintro %_ ⟨Hw, Hp, Ht2, Ht3, Ht4, Ht5, Ht6, Ho0, Ho1, ⟨%fi', Hi⟩, ⟨%fa', Ha⟩, ⟨%fg', Hg⟩, ⟨%fq', Hq⟩, Hc0, Hc1, Hc2, Hc3, Hc4, Hc5, Hc6, Hc7, Hc8, HW⟩
  isplitl [Hw Hp Htr Ht0 Ht1 Ht2 Ht3 Ht4 Ht5 Ht6 Ho0 Ho1]
  · isplitl [Hw]; · iapply (Entails.of_eq (pts_w (F := F) d L _)); iexact Hw
    isplitl [Hp]; · iapply (Entails.of_eq (pts_p (F := F) d L _)); iexact Hp
    isplitr [Ho0 Ho1]
    · iapply (Entails.of_eq (tokens (F := F) _ _ fullShare).symm)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      iexact Ht6
    · iapply (Entails.of_eq (rows_eq (F := F) d L _).symm)
      isplitl [Ho0]; · iexact Ho0
      iexact Ho1
  isplitl [Hi Ha Hg Hq Hbufs]
  · isplitl [Hi]; · iexists fi'; iapply (Entails.of_eq (pts_i (F := F) d L _)); iexact Hi
    isplitl [Ha]; · iexists fa'; iapply (Entails.of_eq (pts_a (F := F) d L _)); iexact Ha
    isplitl [Hg]; · iexists fg'; iapply (Entails.of_eq (pts_g (F := F) d L _)); iexact Hg
    isplitl [Hq]; · iexists fq'; iapply (Entails.of_eq (pts_q (F := F) d L _)); iexact Hq
    iexact Hbufs
  isplitr [HW]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hsems
  iexact HW

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          wW (Memref.isWhole_whole _) pW (Memref.isWhole_whole _) tW (Memref.isWhole_whole _) oW (Memref.isWhole_whole _)
          iB (Memref.isWhole_whole _) aB (Memref.isWhole_whole _) gB (Memref.isWhole_whole _) qB (Memref.isWhole_whole _) cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The call's one vector subcore runs `tile_body`. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ()))  _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-- There is one task, and it takes everything the call was given. -/
theorem vecSplit : (K (F := F)).VecSplit' (P m) 0 := by
  intro d c
  show inPts m d ⊢ |={Set.univ}=> iprop(
      (bigSep Finset.univ fun i : Fin ((K (F := F)).nSub 0) => inPts m d)
      ∗ ((bigSep Finset.univ fun i : Fin ((K (F := F)).nSub 0) => outPts m d) -∗ outPts m d))
  rw [show (bigSep Finset.univ fun i : Fin ((K (F := F)).nSub 0) => inPts m d) = inPts m d from bigSep_univ_of_subsingleton (0 : Fin 1),
    show (bigSep Finset.univ fun i : Fin ((K (F := F)).nSub 0) => outPts m d) = outPts m d from bigSep_univ_of_subsingleton (0 : Fin 1)]
  iintro H; imodintro
  isplitl [H]; · iexact H
  iintro H; iexact H

/-! ## The launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch's ghost state is the handshakes' alone. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host operations and the call -/

abbrev rf (b : Ref sig .tc) : DevRef τ sig := Proc.devRef .tc b

/-- The device's nine arrays. -/
abbrev S9 : Finset (DevRef τ sig) :=
  {rf main_arg0, rf main_arg1, rf main_v0, rf main_v4, rf main_v5, rf main_v1, rf main_cst, rf main_v2, rf main_v3}

/-- The operations before the call, in order. -/
abbrev hostOps : List (HloOp τ sig (Elt F)) :=
  [StableHlo.unary main_arg0 main_v0 ((extractStridedSlice S16 ![8176] · slices_S8192_S16_8176) : (⟨S8192, .i32⟩ : BufTy).Contents (Elt F) → (⟨S16, .i32⟩ : BufTy).Contents (Elt F)),
    StableHlo.nullary main_v1 (sitofp .f32 (iotaInDim S512 32 0)),
    StableHlo.nullary main_cst (constant S_ .f32 0x3C8EFA35#32),
    StableHlo.unary main_cst main_v2 (broadcastInDim S512 ![] bcast_S_S512 : (⟨S_, .f32⟩ : BufTy).Contents (Elt F) → (⟨S512, .f32⟩ : BufTy).Contents (Elt F)),
    StableHlo.binary main_v1 main_v2 main_v3 (mulf : (⟨S512, .f32⟩ : BufTy).Contents (Elt F) → (⟨S512, .f32⟩ : BufTy).Contents (Elt F) → (⟨S512, .f32⟩ : BufTy).Contents (Elt F)),
    StableHlo.unary main_v3 main_v4 (Host.sin : (⟨S512, .f32⟩ : BufTy).Contents (Elt F) → (⟨S512, .f32⟩ : BufTy).Contents (Elt F))]

theorem hostOps_sub : ∀ op ∈ hostOps (F := F), op.bufs ⊆ S9 := by
  intro op h
  simp only [hostOps, List.mem_cons, List.not_mem_nil] at h
  rcases h with rfl | rfl | rfl | rfl | rfl | rfl | h
  · show ({rf main_arg0, rf main_v0} : Finset (DevRef τ sig)) ⊆ S9; decide
  · show ({rf main_v1} : Finset (DevRef τ sig)) ⊆ S9; decide
  · show ({rf main_cst} : Finset (DevRef τ sig)) ⊆ S9; decide
  · show ({rf main_cst, rf main_v2} : Finset (DevRef τ sig)) ⊆ S9; decide
  · show ({rf main_v1, rf main_v2, rf main_v3} : Finset (DevRef τ sig)) ⊆ S9; decide
  · show ({rf main_v3, rf main_v4} : Finset (DevRef τ sig)) ⊆ S9; decide
  · exact h.elim

theorem hostOps_fresh : ∀ op ∈ hostOps (F := F), op.fresh = ∅ := by
  intro op h
  simp only [hostOps, List.mem_cons, List.not_mem_nil] at h
  rcases h with rfl | rfl | rfl | rfl | rfl | rfl | h
  iterate 6 rfl
  exact h.elim

def V0 (d : Dev nD) : Valuation τ sig (Elt F) := fun b => m (d, b)

/-- What the arrays hold when the call starts. -/
def V1 (d : Dev nD) : Valuation τ sig (Elt F) := StableHlo.after (hostOps (F := F)) (V0 m d)

theorem V1_arg0 (d : Dev nD) : V1 m d (rf main_arg0) = m (xLoc d) := by
  unfold V1 hostOps; after_results_simp; rfl
theorem V1_arg1 (d : Dev nD) : V1 m d (rf main_arg1) = m (tLoc d) := by
  unfold V1 hostOps; after_results_simp; rfl
theorem V1_v0 (d : Dev nD) : V1 m d (rf main_v0) = (words (m (xLoc d)) : Buf (Elt F) (wLoc d)) := by
  unfold V1 hostOps; after_results_simp; rfl
theorem V1_v4 (d : Dev nD) : V1 m d (rf main_v4) = (posRow : Buf (Elt F) (pLoc d)) := by
  unfold V1 hostOps; after_results_simp; rfl
theorem V1_v5 (d : Dev nD) : V1 m d (rf main_v5) = m (oLoc d) := by
  unfold V1 hostOps; after_results_simp; rfl

/-- The four arrays @main does not use again. -/
abbrev S4 : Finset (DevRef τ sig) := {rf main_v1, rf main_cst, rf main_v2, rf main_v3}

theorem held_S9 (d : Dev nD) (W : Valuation τ sig (Elt F)) :
    (held (T d) S9 W : sProp 𝕄) = iprop((xLoc d ↦{fullShare} W (rf main_arg0)) ∗ (tLoc d ↦{fullShare} W (rf main_arg1)) ∗ (wLoc d ↦{fullShare} W (rf main_v0))
      ∗ (pLoc d ↦{fullShare} W (rf main_v4)) ∗ (oLoc d ↦{fullShare} W (rf main_v5)) ∗ held (T d) S4 W) := by
  unfold held S9
  rw [SparseCore.bigSep_insert' (by decide), SparseCore.bigSep_insert' (by decide), SparseCore.bigSep_insert' (by decide),
    SparseCore.bigSep_insert' (by decide), SparseCore.bigSep_insert' (by decide)]

theorem unscoped_held (d : Dev nD) : (unscopedBufs d (fun b => m ((SparseCore.T d).loc b)) : sProp 𝕄) = held (T d) S9 (V0 m d) := by
  unfold unscopedBufs held
  rw [show (Finset.univ.filter fun b : Ref sig .tc => ¬ b.isScoped) = {main_arg0, main_arg1, main_v0, main_v4, main_v5, main_v1, main_cst, main_v2, main_v3} by decide]
  repeat rw [SparseCore.bigSep_insert' (by decide)]
  rw [bigSep_singleton]
  repeat rw [SparseCore.bigSep_insert' (by decide)]
  rw [bigSep_singleton]
  rfl

theorem st0_eq (d : Dev nD) : (bigSep Finset.univ fun c : Fin ((K (F := F)).nCore 0) => (P m).st 0 d c) = inPts m d :=
  bigSep_univ_of_subsingleton (0 : Fin 1)
theorem dn0_eq (d : Dev nD) : (bigSep Finset.univ fun c : Fin ((K (F := F)).nCore 0) => (P m).dn 0 d c) = outPts m d :=
  bigSep_univ_of_subsingleton (0 : Fin 1)

/-- What @main ends with. -/
abbrev FIN (d : Dev nD) : sProp 𝕄 := iprop(xPts m d ∗ tPts m d ∗ oPts d (result (m (xLoc d)) (m (tLoc d))))

theorem main_eq (d : Dev nD) : main (F := F) d = (StableHlo.seq (hostOps (F := F)) >>= fun _ => ((K (F := F)).run d 0 >>= fun _ => pure ⟨⟩)) := rfl

/-- @main: the host operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d S9 _ (hostOps (F := F)) hostOps_sub hostOps_fresh (V0 m d)) $$ [Hb Hheld]
  · isplitl [Hb]; · iexact Hb
    iexact Hheld
  rw [show StableHlo.after (hostOps (F := F)) (V0 m d) = V1 m d from rfl]
  iintro ⟨Hb, Hheld⟩
  ihave Hh := (Entails.of_eq (held_S9 (F := F) d (V1 m d))) $$ Hheld
  rw [V1_arg0, V1_arg1, V1_v0, V1_v4, V1_v5]
  icases Hh with ⟨Hx, Ht, Hw, Hp, Ho, -⟩
  simp only [wp_bind, wp_pure]
  iapply ((K (F := F)).wp_run (D (F := F)) 𝒱 (EH := EH) (P := P m) κ d 0) $$ [Hst Hx Ht Hw Hp Ho Hb Hts]
  isplitr; · iexact Hctx
  isplitl [Hst]; · iexact Hst
  isplitl [Ht Hw Hp Ho]
  · rw [st0_eq]
    isplitl [Hw]; · iexact Hw
    isplitl [Hp]; · iexact Hp
    isplitl [Ht]; · iexact Ht
    iexact Ho
  iintro ⟨Hst, Hdn⟩
  ihave Hdn' := (Entails.of_eq (dn0_eq m d)) $$ Hdn
  icases Hdn' with ⟨-, -, Ht, Ho⟩
  imodintro
  isplitl [Hst]; · iexact Hst
  isplitr [Hb Hts]
  · isplitl [Hx]; · iexact Hx
    isplitl [Ht]; · iexact Ht
    iexact Ho
  isplitl [Hb] <;> iassumption

/-- The final memory, read: result and arguments. -/
def fq (d : Dev nD) (s' : Phys nD τ sig (Elt F)) : Prop :=
  s'.mem.mem (oLoc d) = result (m (xLoc d)) (m (tLoc d)) ∧ s'.mem.mem (xLoc d) = m (xLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := (result (m (xLoc d)) (m (tLoc d)) : Buf (Elt F) (oLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What every final state satisfies. -/
def QC : PUnit × MemSt nD τ sig (Elt F) → Prop := fun r =>
  (∀ c : Dev nD, r.2.mem (oLoc c) = result (m (xLoc c)) (m (tLoc c)) ∧ r.2.mem (xLoc c) = m (xLoc c) ∧ r.2.mem (tLoc c) = m (tLoc c)) ∧ r.2.sem = fun _ => 0

/-- From indices that all name rows of the table, every weakly fair execution of the program terminates without a fault,
    the result array holding `result` of the arguments, the arguments unchanged and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelRun

end
-- ==== Proof.RefValue.lean ====
/-
  The reference's value, read at an index: row 0 is row 1 of the table, row 1 is the row the last index names, and each
  has the first row of positions added. At exact numbers that is the value of the kernel.
-/
module

public import proofs.«01_k».proof.Defs
public import proofs.«01_k».proof.Proof.KernelRun
public import proofs.«01_k».proof.Proof.Gen.ReferenceIdeal
public import proofs.«01_k».proof.Proof.Gen.ReferenceIdeal.Run
public import Idealize.ShloMosaic.Lib.Pointwise.Tactic
public import Idealize.ShloMosaic.Lib.Pointwise.SelectCore
public import Idealize.ShloMosaic.Lib.ReduceAll
public import Idealize.ShloMosaic.Lib.Routing.Ops

@[expose] public section

noncomputable section

namespace Cert.Proof.RefValue

open Cert.ReferenceIdeal Cert.ReferenceIdeal.Gen
open Idealize.ShloMosaic
open Cert.Proof.KernelRun (at2 col1 at16 rowIx words posRow result)

variable {F : FTy → Type} [FloatOps F]

/-- The two row numbers the reference looks up: 1 and the last index. -/
def indices (x : S8192.Idx → BitVec 32) : S2.Idx → BitVec 32 :=
  concatenate S2 0 [⟨S1, (broadcastInDim S1 ![] bcast_S_S1 (constantI S_ 32 1#32))⟩, ⟨S1, (broadcastInDim S1 ![] bcast_S_S1 (shapeCast _ (extractStridedSlice S1 ![8191] x slices_S8192_S1_8191) shapeCasts_S1_S_))⟩] concatenates_S1_S1_S2_d0

/-- The same, a negative one counted from the table's end. -/
def wrapped (x : S8192.Idx → BitVec 32) : S2.Idx → BitVec 32 :=
  select (cmpi .slt (indices x) (broadcastInDim S2 ![] bcast_S_S2 (constantI S_ 32 0#32))) (addi (indices x) (broadcastInDim S2 ![] bcast_S_S2 (constantI S_ 32 30522#32))) (indices x)

/-- Whether each names a row of the table. -/
def inRange (x : S8192.Idx → BitVec 32) : S2.Idx → BitVec 1 :=
  Host.reduce IntOp.andi (andi (cmpi .sge (broadcastInDim S2x1 ![0] bcast_S2_S2x1_0 (wrapped x)) (broadcastInDim S2x1 ![] bcast_S_S2x1 (constantI S_ 32 0#32))) (cmpi .sle (broadcastInDim S2x1 ![0] bcast_S2_S2x1_0 (wrapped x)) (broadcastInDim S2x1 ![0, 1] bcast_S1x1_S2x1_0_1 (broadcastInDim S1x1 ![1] bcast_S1_S1x1_1 (constantI S1 32 30521#32))))) (constantI S_ 1 1#1) reducesTo_S2x1_S2_d1 h_S_

/-- The reference's angles, in radians, by position and column. -/
def angles : S8192x512.Idx → F .f32 :=
  mulf (Host.divf (broadcastInDim S8192x512 ![0, 1] bcast_S1x512_S8192x512_0_1 (broadcastInDim S1x512 ![1] bcast_S512_S1x512_1 (sitofp .f32 (iotaInDim S512 32 0)))) (broadcastInDim S8192x512 ![0, 1] bcast_S8192x1_S8192x512_0_1 (Host.powf (broadcastInDim S8192x1 ![] bcast_S_S8192x1 (constant S_ .f32 0x461C4000#32)) (Host.divf (mulf (broadcastInDim S8192x1 ![] bcast_S_S8192x1 (constant S_ .f32 0x40000000#32)) (broadcastInDim S8192x1 ![0] bcast_S8192_S8192x1_0 (sitofp .f32 (iotaInDim S8192 32 0)))) (broadcastInDim S8192x1 ![] bcast_S_S8192x1 (constant S_ .f32 0x44000000#32)))))) (broadcastInDim S8192x512 ![] bcast_S_S8192x512 (constant S_ .f32 0x3C8EFA35#32))

/-- The first row of the reference's table of positions. -/
def firstPositions : S512.Idx → F .f32 :=
  shapeCast _ (extractStridedSlice S1x512 ![0, 0] (concatenate S16384x512 0 [⟨S8192x512, (Host.sin angles)⟩, ⟨S8192x512, (Host.cos angles)⟩] concatenates_S8192x512_S8192x512_S16384x512_d0) slices_S16384x512_S1x512_0_0) shapeCasts_S1x512_S512

/-- The reference's value, its parts named. -/
def value (x : S8192.Idx → BitVec 32) (t : S30522x512.Idx → F .f32) : S2x512.Idx → F .f32 :=
  addf (select (broadcastInDim S2x512 ![0] bcast_S2_S2x512_0 (inRange x)) (Host.gather gather_S30522x512_S2x1_S2x512_1_0_n_n_0_1_1512 t (broadcastInDim S2x1 ![0] bcast_S2_S2x1_0 (wrapped x))) (broadcastInDim S2x512 ![] bcast_S_S2x512 (constant S_ .f32 0x7FC00000#32))) (broadcastInDim S2x512 ![0, 1] bcast_S1x512_S2x512_0_1 (broadcastInDim S1x512 ![1] bcast_S512_S1x512_1 firstPositions))

/-- The generated term of the reference's result is that value. -/
theorem res_eq (m : (ℓ : Loc nD τ sig) → Buf (Elt F) ℓ) (c : Dev nD) :
    Cert.ReferenceIdeal.Value.res_main_v28 m c = value (m ((c.tc : Thread nD τ).loc main_arg0)) (m ((c.tc : Thread nD τ).loc main_arg1)) := rfl

/-- The row number each of the two rows asks for. -/
theorem indices_apply (x : S8192.Idx → BitVec 32) (r : Fin 2) :
    indices x (ix1 r) = if r.val = 0 then 1#32 else words x (at16 15) := by
  have e : shapeCast S_ (extractStridedSlice S1 ![8191] x slices_S8192_S1_8191) shapeCasts_S1_S_ ix0 = words x (at16 15) := by
    unfold shapeCast extractStridedSlice words extractStridedSlice
    refine congrArg x (funext fun a => Fin.ext ?_)
    match a with
    | ⟨0, _⟩ =>
      show 8191 + (Shape.reshapeEquiv shapeCasts_S1_S_ ix0 0).val = 8176 + 15
      have h := (Shape.reshapeEquiv shapeCasts_S1_S_ ix0 0).isLt
      change _ < 1 at h
      omega
  unfold indices
  pointwise
  rw [e]
  by_cases h : r.val = 0
  · rw [dif_pos (by omega), if_pos h]
  · rw [dif_neg (by omega), if_neg h]

/-- Where every index names a row of the table, so does every row number looked up. -/
theorem indices_lt (x : S8192.Idx → BitVec 32) (hx : ∀ j, (x j).toNat < 30522) (j : S2.Idx) : (indices x j).toNat < 30522 := by
  obtain ⟨r, rfl⟩ : ∃ r : Fin 2, j = ix1 r := ⟨j 0, funext fun a => match a with | ⟨0, _⟩ => rfl⟩
  rw [indices_apply]
  split
  · decide
  · exact hx _

/-- A word below the table's height is not negative. -/
theorem not_neg (v : BitVec 32) (h : v.toNat < 30522) : IntOp.cmpi .slt v 0#32 = 0#1 := by
  have e : BitVec.slt v 0#32 = false := by
    simp only [BitVec.slt_eq_decide, BitVec.toInt_eq_toNat_cond, BitVec.toNat_ofNat, Nat.reducePow, Nat.reduceMod, decide_eq_false_iff_not]
    omega
  simp only [IntOp.cmpi, e]
  rfl

/-- It lies between 0 and the last row. -/
theorem within (v : BitVec 32) (h : v.toNat < 30522) :
    IntOp.andi (IntOp.cmpi .sge v 0#32) (IntOp.cmpi .sle v 30521#32) = 1#1 := by
  have e1 : BitVec.sle 0#32 v = true := by
    simp only [BitVec.sle_eq_decide, BitVec.toInt_eq_toNat_cond, BitVec.toNat_ofNat, Nat.reducePow, Nat.reduceMod, decide_eq_true_eq]
    omega
  have e2 : BitVec.sle v 30521#32 = true := by
    simp only [BitVec.sle_eq_decide, BitVec.toInt_eq_toNat_cond, BitVec.toNat_ofNat, Nat.reducePow, Nat.reduceMod, decide_eq_true_eq]
    omega
  simp only [IntOp.cmpi, e1, e2]
  rfl

/-- So no row number is counted from the end. -/
theorem wrapped_eq (x : S8192.Idx → BitVec 32) (hx : ∀ j, (x j).toNat < 30522) : wrapped x = indices x := by
  funext j
  have h := indices_lt x hx j
  show (if IntOp.cmpi .slt (indices x j) 0#32 = 1#1 then _ else _) = _
  rw [not_neg _ h]
  rfl

/-- And every one is in range. -/
theorem inRange_eq (x : S8192.Idx → BitVec 32) (hx : ∀ j, (x j).toNat < 30522) (r : S2.Idx) : inRange x r = 1#1 := by
  unfold inRange
  rw [wrapped_eq x hx]
  refine Host.reduce_andi_one _ _ _ _ _ rfl fun i => ?_
  show IntOp.andi (IntOp.cmpi .sge (indices x _) 0#32) (IntOp.cmpi .sle (indices x _) 30521#32) = 1#1
  exact within _ (indices_lt x hx _)

/-- Ten thousand to the power `2 · 0 / 512` is one. -/
theorem divisor : Ideal.pow (Ideal.ofBits .f32 0x461C4000#32) (Ideal.div (Ideal.ofBits .f32 0x40000000#32 * 0) (Ideal.ofBits .f32 0x44000000#32)) = 1 := by
  have h1 : Ideal.ofBits .f32 0x461C4000#32 = ((10000 : ℝ) : EReal) := by
    simp [Ideal.ofBits, Ideal.ieee, -EReal.coe_mul]; norm_num
  have h2 : Ideal.ofBits .f32 0x44000000#32 = ((512 : ℝ) : EReal) := by
    simp [Ideal.ofBits, Ideal.ieee, -EReal.coe_mul]; norm_num
  have h3 : ((512 : ℝ) : EReal) ≠ 0 := by norm_num
  rw [h1, h2, mul_zero]
  unfold Ideal.div
  rw [if_neg h3, zero_mul]
  show ((Real.rpow 10000 0 : ℝ) : EReal) = 1
  rw [show Real.rpow 10000 0 = 1 from Real.rpow_zero _]
  rfl

/-- At exact numbers, position 0's angle in each column is the column's number of degrees. -/
theorem angles_apply (j : Fin 512) : angles (F := Ideal) (ix2 0 j)
    = FloatOps.mulf (FloatOps.sitofp .f32 (BitVec.ofNat 32 j.val)) (Ideal.ofBits .f32 0x3C8EFA35#32) := by
  unfold angles
  pointwise
  have h0 : FloatOps.sitofp (F := Ideal) .f32 0#32 = (0 : EReal) := by
    show (((0#32 : BitVec 32).toInt : ℝ) : EReal) = 0
    simp
  rw [h0, divisor]
  congr 1
  unfold Ideal.div
  rw [if_neg one_ne_zero]
  simp

/-- A one-row array reshaped to a vector keeps its columns. -/
theorem flat {α : Type} (y : S1x512.Idx → α) (j : Fin 512) : shapeCast S512 y shapeCasts_S1x512_S512 (ix1 j) = y (ix2 0 j) := by
  refine Eq.trans ?_ ((Routing.cast21 (a := 1) (b := 512) (n := 512) y shapeCasts_S1x512_S512 0 j j (by simp)).trans ?_)
  · congr 1
  · congr 1

/-- At exact numbers, the reference's first row of positions is the kernel's. -/
theorem firstPositions_apply (j : Fin 512) : firstPositions (F := Ideal) (ix1 j) = posRow (F := Ideal) (col1 j) := by
  have e : firstPositions (F := Ideal) (ix1 j) = Ideal.sin (angles (F := Ideal) (ix2 0 j)) := by
    unfold firstPositions
    generalize angles (F := Ideal) = g
    rw [flat]
    pointwise
  rw [e, angles_apply]
  rfl

/-- Looking the table up at in-range row numbers reads those rows. -/
theorem lookup (t : S30522x512.Idx → F .f32) (idx : S2.Idx → BitVec 32) (r : Fin 2) (j : Fin 512)
    (h : (idx (ix1 r)).toNat < 30522) :
    Host.gather gather_S30522x512_S2x1_S2x512_1_0_n_n_0_1_1512 t (broadcastInDim S2x1 ![0] bcast_S2_S2x1_0 idx) (ix2 r j)
      = t (at2 (rowIx (idx (ix1 r))) j) := by
  have e := Routing.gather_row (nb := 30522) (B := 512) (n := 2) gather_S30522x512_S2x1_S2x512_1_0_n_n_0_1_1512 rfl rfl rfl rfl rfl t
    (broadcastInDim S2x1 ![0] bcast_S2_S2x1_0 idx) r j (rowIx (idx (ix1 r))) ?_ (by norm_num)
  · refine (Eq.trans ?_ e).trans ?_
    · congr 1
    · congr 1
      funext a; match a with | ⟨0, _⟩ => rfl | ⟨1, _⟩ => rfl
  · have hb : broadcastInDim S2x1 ![0] bcast_S2_S2x1_0 idx (ValueIdx.ix2 r (0 : Fin 1)) = idx (ix1 r) := by
      show idx _ = idx _
      congr 1
      funext a; match a with | ⟨0, _⟩ => rfl
    rw [hb]
    apply BitVec.eq_of_toNat_eq
    have h2 : (rowIx (idx (ix1 r))).val = (idx (ix1 r)).toNat := Nat.mod_eq_of_lt h
    rw [h2, BitVec.toNat_ofNat]
    omega

/-- At exact numbers, where every index names a row of the table, the reference's value is the kernel's. -/
theorem value_eq (x : S8192.Idx → BitVec 32) (t : S30522x512.Idx → EReal) (hx : ∀ j, (x j).toNat < 30522) :
    value (F := Ideal) x t = result (F := Ideal) x t := by
  funext j
  obtain ⟨r, c, rfl⟩ : ∃ (r : Fin 2) (c : Fin 512), j = ix2 r c := ⟨j 0, j 1, ValueIdx.eq_ix2 j⟩
  have hl := lookup (F := Ideal) t (indices x) r c (indices_lt x hx _)
  have hp := firstPositions_apply c
  have hr : inRange x = fun _ => 1#1 := funext (inRange_eq x hx)
  unfold value
  rw [wrapped_eq x hx, hr]
  generalize firstPositions (F := Ideal) = p at hp ⊢
  generalize Host.gather gather_S30522x512_S2x1_S2x512_1_0_n_n_0_1_1512 t (broadcastInDim S2x1 ![0] bcast_S2_S2x1_0 (indices x)) = g at hl ⊢
  rw [indices_apply] at hl
  unfold result
  pointwise
  rw [hl, hp]
  have e : rowIx (if r.val = 0 then 1#32 else words x (at16 15)) = if r.val = 0 then 1 else rowIx (words x (at16 15)) := by
    by_cases h : r.val = 0
    · rw [if_pos h, if_pos h]; rfl
    · rw [if_neg h, if_neg h]
  rw [e]
  rfl

end Cert.Proof.RefValue

end
-- ==== Proof.KernelClaims.lean ====
/-
  The claims about the whole kernel, from its one run (KernelLaunch.lean) and the reference's value (RefValue.lean).
-/
module

public import proofs.«01_k».proof.Defs
public import proofs.«01_k».proof.Proof.KernelRun
public import proofs.«01_k».proof.Proof.KernelLaunch
public import proofs.«01_k».proof.Proof.RefValue
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Gen.ReferenceIdeal.Run
public import Idealize.ShloMosaic.Adequacy

@[expose] public section

noncomputable section

namespace Cert.Proof.KernelClaims

open Idealize.ShloMosaic Idealize.SL.Sem

/-- The precondition's one shape fact: a scalar is broadcast along the 8192 indices. -/
theorem factsPre : Cert.Pre_tokens_in_vocab.Facts := ⟨by decide⟩

attribute [local instance] factsPre

/-- The conjunction of two truth values as one-bit words. -/
theorem andi_bools (p q : Bool) : IntOp.andi (BitVec.ofBool p) (BitVec.ofBool q) = BitVec.ofBool (p && q) := by
  cases p <;> cases q <;> decide

/-- A truth value as a one-bit word is 1 exactly when it is true. -/
theorem bool_one (p : Bool) : (BitVec.ofBool p = 1#1) ↔ p = true := by cases p <;> decide

/-- A word that, read signed, is at least 0 and below the table's height is below it read unsigned. -/
theorem below (v : BitVec 32) (e : IntOp.andi (IntOp.cmpi .sge v 0#32) (IntOp.cmpi .slt v 30522#32) = 1#1) : v.toNat < 30522 := by
  simp only [IntOp.cmpi, andi_bools, bool_one, Bool.and_eq_true, BitVec.sle_eq_decide, BitVec.slt_eq_decide, decide_eq_true_eq,
    BitVec.toInt_eq_toNat_cond, BitVec.toNat_ofNat, Nat.reducePow, Nat.reduceMod] at e
  omega

/-- The precondition says of every index that it names a row of the table. -/
theorem tokens_lt {F : FTy → Type} [FloatOps F] (x : Cert.Pre_tokens_in_vocab.S8192.Idx → BitVec 32)
    (t : Cert.Pre_tokens_in_vocab.S30522x512.Idx → F .f32)
    (h : Cert.Pre_tokens_in_vocab.fn (F := F) x t = fun _ => 1#1) (j : Cert.Pre_tokens_in_vocab.S8192.Idx) : (x j).toNat < 30522 := by
  have e := congrFun h j
  simp only [Cert.Pre_tokens_in_vocab.fn, andi, cmpi, broadcastInDim, constantI] at e
  exact below _ e

/-- The idealized kernel terminates without a fault, its arguments unchanged and its semaphores at zero. -/
theorem frame_kernelIdeal : Cert.quiescent_KernelIdeal := fun m ρ h =>
  (θ_run Cert.KernelIdeal.defs _ _).mono (fun _ h => ⟨fun c => (h.1 c).2, h.2⟩)
    (KernelRun.run_main (F := Ideal) m ρ fun c j => tokens_lt _ _ (h c) j)

/-- So does the kernel as printed: it is the same text, so the same run, read at bits. -/
theorem frame_kernel : Cert.quiescent_Kernel := fun m ρ h =>
  (θ_run Cert.KernelIdeal.defs _ _).mono (fun _ h => ⟨fun c => (h.1 c).2, h.2⟩)
    (KernelRun.run_main (F := Bits) m ρ fun c j => tokens_lt _ _ (h c) j)

/-- The idealized reference terminates, its arguments unchanged; it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition, which it does not need. -/
theorem frame_referenceIdeal_pre : Cert.quiescent_ReferenceIdeal_pre_tokens_in_vocab := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At exact numbers, where every index names a row of the table, the kernel's result is the reference's. -/
theorem algebraic_kernel : Cert.algebraic_KernelIdeal_ReferenceIdeal := fun m ρ m' ρ' h hag =>
  ⟨fun c => KernelRun.result (F := Ideal) (m (KernelRun.xLoc c)) (m (KernelRun.tLoc c)),
    (θ_run Cert.KernelIdeal.defs _ _).mono (fun _ h => h.1)
      (KernelRun.run_main (F := Ideal) m ρ fun c j => tokens_lt _ _ (h c) j),
    (θ_run Cert.ReferenceIdeal.defs _ _).mono
      (fun _ hr c => ⟨((hr c).1.trans (RefValue.res_eq m' c)).trans
          ((congrArg₂ (RefValue.value (F := Ideal)) (hag c).1 (hag c).2).trans
            (RefValue.value_eq _ _ fun j => tokens_lt _ _ (h c) j)), (hr c).2⟩)
      (Cert.ReferenceIdeal.Value.run (F := Ideal) m' ρ')⟩

end Cert.Proof.KernelClaims

end
-- ==== Proof.lean ====
module

public import proofs.«01_k».proof.Defs
public import proofs.«01_k».proof.Proof.Gen.Rows
public import proofs.«01_k».proof.Proof.Gen.Rows.Skeleton
public import proofs.«01_k».proof.Proof.Gen.RowsIdeal
public import proofs.«01_k».proof.Proof.Gen.RowsIdeal.Skeleton
public import proofs.«01_k».proof.Proof.Gen.FirstRowsIdeal
public import proofs.«01_k».proof.Proof.Gen.FirstRows
public import proofs.«01_k».proof.Proof.Gen.FirstRows.Run
public import proofs.«01_k».proof.Proof.Gen.FirstRowsIdeal.Run
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.RowsRun
public import proofs.«01_k».proof.Proof.RowsClaims
public import proofs.«01_k».proof.Proof.KernelRun
public import proofs.«01_k».proof.Proof.KernelLaunch
public import proofs.«01_k».proof.Proof.RefValue
public import proofs.«01_k».proof.Proof.KernelClaims
public import Idealize.ShloMosaic.Adequacy
public import Idealize.ShloMosaic.Init

@[expose] public section

noncomputable section

namespace Cert.Proof

open Idealize.ShloMosaic Idealize.SL.Sem Cert.Rows

/-- Every claim of the certificate, with the facts its programs state. -/
theorem claim : Cert.Claim := ⟨Cert.Rows.Gen.facts, Cert.RowsIdeal.Gen.facts, Cert.FirstRowsIdeal.Gen.facts, Cert.FirstRows.Gen.facts,
  Cert.Kernel.Gen.facts, Cert.KernelIdeal.Gen.facts, Cert.ReferenceIdeal.Gen.facts, KernelClaims.factsPre, by
  exact ⟨RowsClaims.frame_rows, RowsClaims.frame_rowsIdeal, RowsClaims.frame_firstRowsIdeal, RowsClaims.frame_firstRows,
    KernelClaims.frame_kernel, KernelClaims.frame_kernelIdeal, KernelClaims.frame_referenceIdeal, KernelClaims.frame_referenceIdeal_pre,
    trivial, RowsClaims.algebraic_rows, RowsClaims.bitexact_rows, trivial, KernelClaims.algebraic_kernel⟩⟩

end Cert.Proof

end
